-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_keep_sign [hPre_scores_keep_sign : Cert.Pre_scores_keep_sign.Facts] (m : (ℓ : Loc Cert.KernelIdeal.nD Cert.KernelIdeal.τ Cert.KernelIdeal.sig) → Buf (Elt Ideal) ℓ) : Prop :=
  ∀ c : Dev Cert.KernelIdeal.nD,
    (Cert.Pre_scores_keep_sign.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_keep_sign [hPre_scores_keep_sign : Cert.Pre_scores_keep_sign.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_keep_sign.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_keep_sign [hKernelIdeal : Cert.KernelIdeal.Facts] [hPre_scores_keep_sign : Cert.Pre_scores_keep_sign.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_keep_sign m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_keep_sign [hReferenceIdeal : Cert.ReferenceIdeal.Facts] [hPre_scores_keep_sign : Cert.Pre_scores_keep_sign.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_keep_sign m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_scores_keep_sign [hKernelIdeal : Cert.KernelIdeal.Facts] [hReferenceIdeal : Cert.ReferenceIdeal.Facts] [hPre_scores_keep_sign : Cert.Pre_scores_keep_sign.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_keep_sign m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scores_keep_sign : Cert.Pre_scores_keep_sign.Facts),
    quiescent_Kernel (hKernel := hKernel)
    ∧ quiescent_KernelIdeal (hKernelIdeal := hKernelIdeal)
    ∧ quiescent_KernelIdeal_pre_scores_keep_sign (hKernelIdeal := hKernelIdeal) (hPre_scores_keep_sign := hPre_scores_keep_sign)
    ∧ quiescent_ReferenceIdeal (hReferenceIdeal := hReferenceIdeal)
    ∧ quiescent_ReferenceIdeal_pre_scores_keep_sign (hReferenceIdeal := hReferenceIdeal) (hPre_scores_keep_sign := hPre_scores_keep_sign)
    ∧ preserves_Kernel_KernelIdeal
    ∧ algebraic_KernelIdeal_ReferenceIdeal_pre_scores_keep_sign (hKernelIdeal := hKernelIdeal) (hReferenceIdeal := hReferenceIdeal) (hPre_scores_keep_sign := hPre_scores_keep_sign)
-- ==== Pre_scores_keep_sign.lean ====
abbrev S8x8192x4096 : Shape := ⟨3, ![8, 8192, 4096]⟩
abbrev S16 : Shape := ⟨1, ![16]⟩
abbrev S8x8192x512 : Shape := ⟨3, ![8, 8192, 512]⟩
abbrev S2 : Shape := ⟨1, ![2]⟩
abbrev S2x8 : Shape := ⟨2, ![2, 8]⟩
abbrev S2x1 : Shape := ⟨2, ![2, 1]⟩
abbrev S_ : Shape := ⟨0, ![]⟩

class Facts : Prop where
  shapeCasts_S16_S2x8 : S16.ShapeCasts S2x8
  bcast_S2_S2x1_0 : S2.BroadcastsInDim S2x1 (![0] : Fin 1 → Fin S2x1.rank)
  bcast_S2x1_S2x8_0_1 : S2x1.BroadcastsInDim S2x8 (![0, 1] : Fin 2 → Fin S2x8.rank)
  bcast_S_S2x8 : S_.BroadcastsInDim S2x8 (![] : Fin 0 → Fin S2x8.rank)
  reducesTo_S2x8_S_d0_1 : S2x8.ReducesTo [0, 1] S_
  h_S_ : 0 < S_.numel

variable [Facts]

def fn {F : FTy → Type} [FloatOps F] (main_arg0 : FVec F S8x8192x4096 .fp8e4m3) (main_arg1 : FVec F S16 .f32) (main_arg2 : FVec F S8x8192x512 .fp8e4m3) (main_arg3 : FVec F S2 .f32) (main_arg4 : FVec F S8x8192x512 .fp8e4m3) (main_arg5 : FVec F S2 .f32) : IVec S_ 1 :=
  let main_v0 : FVec F S2x8 .f32 := shapeCast S2x8 main_arg1 shapeCasts_S16_S2x8
  let main_v1 : FVec F S2x1 .f32 := broadcastInDim S2x1 ![0] bcast_S2_S2x1_0 main_arg3
  let main_v2 : FVec F S2x8 .f32 := broadcastInDim S2x8 ![0, 1] bcast_S2x1_S2x8_0_1 main_v1
  let main_v3 : FVec F S2x8 .f32 := mulf main_v0 main_v2
  let main_cst : FVec F S_ .f32 := constant S_ .f32 0x00000000#32
  let main_v4 : FVec F S2x8 .f32 := broadcastInDim S2x8 ![] bcast_S_S2x8 main_cst
  let main_v5 : IVec S2x8 1 := cmpf .oge main_v3 main_v4
  let main_c : IVec S_ 1 := constantI S_ 1 1#1
  let main_v6 : IVec S_ 1 := (fun x v => Host.reduce IntOp.andi x v reducesTo_S2x8_S_d0_1 h_S_) main_v5 main_c
  main_v6
-- ==== Kernel.lean ====
abbrev S8x8192x4096 : Shape := ⟨3, ![8, 8192, 4096]⟩
abbrev S16 : Shape := ⟨1, ![16]⟩
abbrev S8x8192x512 : Shape := ⟨3, ![8, 8192, 512]⟩
abbrev S2 : Shape := ⟨1, ![2]⟩
abbrev S8x8192x2x256 : Shape := ⟨4, ![8, 8192, 2, 256]⟩
abbrev S8x2x256x8192 : Shape := ⟨4, ![8, 2, 256, 8192]⟩
abbrev S1x1024x2048 : Shape := ⟨3, ![1, 1024, 2048]⟩
abbrev S1x8192x256 : Shape := ⟨3, ![1, 8192, 256]⟩
abbrev S1x1x256x8192 : Shape := ⟨4, ![1, 1, 256, 8192]⟩
abbrev S8192x256 : Shape := ⟨2, ![8192, 256]⟩
abbrev S32x256 : Shape := ⟨2, ![32, 256]⟩
abbrev S256x256 : Shape := ⟨2, ![256, 256]⟩
abbrev S1 : Shape := ⟨1, ![1]⟩
abbrev S1x256x256 : Shape := ⟨3, ![1, 256, 256]⟩
abbrev S1x512x256 : Shape := ⟨3, ![1, 512, 256]⟩
abbrev S512x256 : Shape := ⟨2, ![512, 256]⟩
abbrev S16x32x256 : Shape := ⟨3, ![16, 32, 256]⟩
abbrev S256 : Shape := ⟨1, ![256]⟩
abbrev S1x256 : Shape := ⟨2, ![1, 256]⟩
abbrev S1x1x256x512 : Shape := ⟨4, ![1, 1, 256, 512]⟩
abbrev S256x512 : Shape := ⟨2, ![256, 512]⟩

abbrev nBuf : Space → Nat
  | .hbm => 9
  | .vmem => 10
  | .smem => 3
  | _ => 0

abbrev bufTy : (tb : Table) → Fin (tcTables nBuf tb) → BufTy
  | .hbm, ⟨0, _⟩ => ⟨S8x8192x4096, .fp8e4m3⟩
  | .hbm, ⟨1, _⟩ => ⟨S16, .f32⟩
  | .hbm, ⟨2, _⟩ => ⟨S8x8192x512, .fp8e4m3⟩
  | .hbm, ⟨3, _⟩ => ⟨S2, .f32⟩
  | .hbm, ⟨4, _⟩ => ⟨S8x8192x512, .fp8e4m3⟩
  | .hbm, ⟨5, _⟩ => ⟨S2, .f32⟩
  | .hbm, ⟨6, _⟩ => ⟨S8x8192x2x256, .fp8e4m3⟩
  | .hbm, ⟨7, _⟩ => ⟨S8x2x256x8192, .fp8e4m3⟩
  | .hbm, ⟨8, _⟩ => ⟨S8x8192x4096, .bf16⟩
  | .local _ .vmem, ⟨0, _⟩ => ⟨S1x1024x2048, .fp8e4m3⟩
  | .local _ .vmem, ⟨1, _⟩ => ⟨S1x1024x2048, .fp8e4m3⟩
  | .local _ .vmem, ⟨2, _⟩ => ⟨S1x8192x256, .fp8e4m3⟩
  | .local _ .vmem, ⟨3, _⟩ => ⟨S1x8192x256, .fp8e4m3⟩
  | .local _ .vmem, ⟨4, _⟩ => ⟨S1x1x256x8192, .fp8e4m3⟩
  | .local _ .vmem, ⟨5, _⟩ => ⟨S1x1x256x8192, .fp8e4m3⟩
  | .local _ .vmem, ⟨6, _⟩ => ⟨S1x1024x2048, .bf16⟩
  | .local _ .vmem, ⟨7, _⟩ => ⟨S1x1024x2048, .bf16⟩
  | .local _ .vmem, ⟨8, _⟩ => ⟨S8192x256, .f32⟩
  | .local _ .vmem, ⟨9, _⟩ => ⟨S8192x256, .f32⟩
  | .local _ .smem, ⟨0, _⟩ => ⟨S16, .f32⟩
  | .local _ .smem, ⟨1, _⟩ => ⟨S2, .f32⟩
  | .local _ .smem, ⟨2, _⟩ => ⟨S2, .f32⟩
  | _, _ => ⟨S8x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 2, 8], ![false, false, false]⟩

def k0_mult1 : BitVec 32 :=
  let c0_i32 : BitVec 32 := 0#32
  let c8_i32 : BitVec 32 := 8#32
  let v3 : BitVec 32 := Scalar.divsi c0_i32 c8_i32
  let c256_i32 : BitVec 32 := 256#32
  let v4 : BitVec 32 := Scalar.muli v3 c256_i32
  v4
def k0_mult2 : BitVec 32 :=
  let c0_i32_2 : BitVec 32 := 0#32
  let c8_i32_3 : BitVec 32 := 8#32
  let v6 : BitVec 32 := Scalar.remsi c0_i32_2 c8_i32_3
  let c256_i32_4 : BitVec 32 := 256#32
  let v7 : BitVec 32 := Scalar.muli v6 c256_i32_4
  v7
def k0_off1 (i : grid0.Coords) : Fin 1 → Nat :=
  let arg1 : BitVec 32 := BitVec.ofNat 32 (i 1).val
  let c8_i32_5 : BitVec 32 := 8#32
  let v9 : BitVec 32 := Scalar.muli arg1 c8_i32_5
  let c0_i32_6 : BitVec 32 := 0#32
  let c8_i32_7 : BitVec 32 := 8#32
  let v10 : BitVec 32 := Scalar.remsi c0_i32_6 c8_i32_7
  let v11 : BitVec 32 := Scalar.addi v9 v10
  let v12 : Index := Scalar.indexCast v11
  ![v12.toNat]
def k0_off2 (i : grid0.Coords) : Fin 1 → Nat :=
  let arg1 : BitVec 32 := BitVec.ofNat 32 (i 1).val
  let v14 : Index := Scalar.indexCast arg1
  ![v14.toNat]
def k0_off3 : Fin 3 → Nat :=
  let c0 : Index := 0#32
  let c0_i32 : BitVec 32 := 0#32
  let c8_i32 : BitVec 32 := 8#32
  let v3 : BitVec 32 := Scalar.divsi c0_i32 c8_i32
  let c256_i32 : BitVec 32 := 256#32
  let v4 : BitVec 32 := Scalar.muli v3 c256_i32
  let v5 : BitVec 32 := v4
  let v21 : Index := Scalar.indexCast v5
  let c0_i32_2 : BitVec 32 := 0#32
  let c8_i32_3 : BitVec 32 := 8#32
  let v6 : BitVec 32 := Scalar.remsi c0_i32_2 c8_i32_3
  let c256_i32_4 : BitVec 32 := 256#32
  let v7 : BitVec 32 := Scalar.muli v6 c256_i32_4
  let v8 : BitVec 32 := v7
  let v22 : Index := Scalar.indexCast v8
  ![0, v21.toNat, v22.toNat]
@[reducible] def k0_t1_loop : Scf.Loop 32 :=
  let c0_i32_116 : BitVec 32 := 0#32
  let c16_i32 : BitVec 32 := 16#32
  let v190 : BitVec 32 := Scalar.addi c0_i32_116 c16_i32
  let c1_i32 : BitVec 32 := 1#32
  ⟨c0_i32_116, v190, c1_i32⟩
def k0_mult3 (k0_t1 : Fin k0_t1_loop.trips) : BitVec 32 :=
  let c2_i32 : BitVec 32 := 2#32
  let c0_i32_116 : BitVec 32 := 0#32
  let c1_i32 : BitVec 32 := 1#32
  let arg12 : BitVec 32 := Scf.iv c0_i32_116 c1_i32 k0_t1
  let v192 : BitVec 32 := Scalar.muli c2_i32 arg12
  let c1_i32_118 : BitVec 32 := 1#32
  let v193 : BitVec 32 := Scalar.addi v192 c1_i32_118
  let c32_i32 : BitVec 32 := 32#32
  let v194 : BitVec 32 := Scalar.remsi v193 c32_i32
  let c8_i32_119 : BitVec 32 := 8#32
  let v195 : BitVec 32 := Scalar.divsi v194 c8_i32_119
  let c256_i32_120 : BitVec 32 := 256#32
  let v196 : BitVec 32 := Scalar.muli v195 c256_i32_120
  v196
def k0_mult4 (k0_t1 : Fin k0_t1_loop.trips) : BitVec 32 :=
  let c2_i32 : BitVec 32 := 2#32
  let c0_i32_116 : BitVec 32 := 0#32
  let c1_i32 : BitVec 32 := 1#32
  let arg12 : BitVec 32 := Scf.iv c0_i32_116 c1_i32 k0_t1
  let v192 : BitVec 32 := Scalar.muli c2_i32 arg12
  let c1_i32_118 : BitVec 32 := 1#32
  let v193 : BitVec 32 := Scalar.addi v192 c1_i32_118
  let c32_i32 : BitVec 32 := 32#32
  let v194 : BitVec 32 := Scalar.remsi v193 c32_i32
  let c8_i32_121 : BitVec 32 := 8#32
  let v198 : BitVec 32 := Scalar.remsi v194 c8_i32_121
  let c256_i32_122 : BitVec 32 := 256#32
  let v199 : BitVec 32 := Scalar.muli v198 c256_i32_122
  v199
def k0_off4 (i : grid0.Coords) (k0_t1 : Fin k0_t1_loop.trips) : Fin 1 → Nat :=
  let arg1 : BitVec 32 := BitVec.ofNat 32 (i 1).val
  let c8_i32_123 : BitVec 32 := 8#32
  let v201 : BitVec 32 := Scalar.muli arg1 c8_i32_123
  let c2_i32 : BitVec 32 := 2#32
  let c0_i32_116 : BitVec 32 := 0#32
  let c1_i32 : BitVec 32 := 1#32
  let arg12 : BitVec 32 := Scf.iv c0_i32_116 c1_i32 k0_t1
  let v192 : BitVec 32 := Scalar.muli c2_i32 arg12
  let c1_i32_118 : BitVec 32 := 1#32
  let v193 : BitVec 32 := Scalar.addi v192 c1_i32_118
  let c32_i32 : BitVec 32 := 32#32
  let v194 : BitVec 32 := Scalar.remsi v193 c32_i32
  let c8_i32_124 : BitVec 32 := 8#32
  let v202 : BitVec 32 := Scalar.remsi v194 c8_i32_124
  let v203 : BitVec 32 := Scalar.addi v201 v202
  let v204 : Index := Scalar.indexCast v203
  ![v204.toNat]
def k0_off5 (i : grid0.Coords) : Fin 1 → Nat :=
  let arg1 : BitVec 32 := BitVec.ofNat 32 (i 1).val
  let v206 : Index := Scalar.indexCast arg1
  ![v206.toNat]
def k0_off6 (k0_t1 : Fin k0_t1_loop.trips) : Fin 3 → Nat :=
  let c0_129 : Index := 0#32
  let c2_i32 : BitVec 32 := 2#32
  let c0_i32_116 : BitVec 32 := 0#32
  let c1_i32 : BitVec 32 := 1#32
  let arg12 : BitVec 32 := Scf.iv c0_i32_116 c1_i32 k0_t1
  let v192 : BitVec 32 := Scalar.muli c2_i32 arg12
  let c1_i32_118 : BitVec 32 := 1#32
  let v193 : BitVec 32 := Scalar.addi v192 c1_i32_118
  let c32_i32 : BitVec 32 := 32#32
  let v194 : BitVec 32 := Scalar.remsi v193 c32_i32
  let c8_i32_119 : BitVec 32 := 8#32
  let v195 : BitVec 32 := Scalar.divsi v194 c8_i32_119
  let c256_i32_120 : BitVec 32 := 256#32
  let v196 : BitVec 32 := Scalar.muli v195 c256_i32_120
  let v197 : BitVec 32 := v196
  let v213 : Index := Scalar.indexCast v197
  let c8_i32_121 : BitVec 32 := 8#32
  let v198 : BitVec 32 := Scalar.remsi v194 c8_i32_121
  let c256_i32_122 : BitVec 32 := 256#32
  let v199 : BitVec 32 := Scalar.muli v198 c256_i32_122
  let v200 : BitVec 32 := v199
  let v214 : Index := Scalar.indexCast v200
  ![0, v213.toNat, v214.toNat]
def k0_off7 (i : grid0.Coords) (k0_t1 : Fin k0_t1_loop.trips) : Fin 1 → Nat :=
  let arg1 : BitVec 32 := BitVec.ofNat 32 (i 1).val
  let c8_i32_130 : BitVec 32 := 8#32
  let v221 : BitVec 32 := Scalar.muli arg1 c8_i32_130
  let c2_i32 : BitVec 32 := 2#32
  let c0_i32_116 : BitVec 32 := 0#32
  let c1_i32 : BitVec 32 := 1#32
  let arg12 : BitVec 32 := Scf.iv c0_i32_116 c1_i32 k0_t1
  let v192 : BitVec 32 := Scalar.muli c2_i32 arg12
  let c8_i32_131 : BitVec 32 := 8#32
  let v222 : BitVec 32 := Scalar.remsi v192 c8_i32_131
  let v223 : BitVec 32 := Scalar.addi v221 v222
  let v224 : Index := Scalar.indexCast v223
  ![v224.toNat]
def k0_mult5 (k0_t1 : Fin k0_t1_loop.trips) : BitVec 32 :=
  let c2_i32 : BitVec 32 := 2#32
  let c0_i32_116 : BitVec 32 := 0#32
  let c1_i32 : BitVec 32 := 1#32
  let arg12 : BitVec 32 := Scf.iv c0_i32_116 c1_i32 k0_t1
  let v192 : BitVec 32 := Scalar.muli c2_i32 arg12
  let c8_i32_406 : BitVec 32 := 8#32
  let v664 : BitVec 32 := Scalar.divsi v192 c8_i32_406
  let c256_i32_407 : BitVec 32 := 256#32
  let v665 : BitVec 32 := Scalar.muli v664 c256_i32_407
  v665
def k0_mult6 (k0_t1 : Fin k0_t1_loop.trips) : BitVec 32 :=
  let c2_i32 : BitVec 32 := 2#32
  let c0_i32_116 : BitVec 32 := 0#32
  let c1_i32 : BitVec 32 := 1#32
  let arg12 : BitVec 32 := Scf.iv c0_i32_116 c1_i32 k0_t1
  let v192 : BitVec 32 := Scalar.muli c2_i32 arg12
  let c8_i32_408 : BitVec 32 := 8#32
  let v667 : BitVec 32 := Scalar.remsi v192 c8_i32_408
  let c256_i32_409 : BitVec 32 := 256#32
  let v668 : BitVec 32 := Scalar.muli v667 c256_i32_409
  v668
def k0_off8 (k0_t1 : Fin k0_t1_loop.trips) : Fin 3 → Nat :=
  let c0_413 : Index := 0#32
  let c2_i32 : BitVec 32 := 2#32
  let c0_i32_116 : BitVec 32 := 0#32
  let c1_i32 : BitVec 32 := 1#32
  let arg12 : BitVec 32 := Scf.iv c0_i32_116 c1_i32 k0_t1
  let v192 : BitVec 32 := Scalar.muli c2_i32 arg12
  let c8_i32_406 : BitVec 32 := 8#32
  let v664 : BitVec 32 := Scalar.divsi v192 c8_i32_406
  let c256_i32_407 : BitVec 32 := 256#32
  let v665 : BitVec 32 := Scalar.muli v664 c256_i32_407
  let v666 : BitVec 32 := v665
  let v683 : Index := Scalar.indexCast v666
  let c8_i32_408 : BitVec 32 := 8#32
  let v667 : BitVec 32 := Scalar.remsi v192 c8_i32_408
  let c256_i32_409 : BitVec 32 := 256#32
  let v668 : BitVec 32 := Scalar.muli v667 c256_i32_409
  let v669 : BitVec 32 := v668
  let v684 : Index := Scalar.indexCast v669
  ![0, v683.toNat, v684.toNat]
def k0_mult7 (k0_t1 : Fin k0_t1_loop.trips) : BitVec 32 :=
  let c2_i32_420 : BitVec 32 := 2#32
  let c0_i32_116 : BitVec 32 := 0#32
  let c1_i32 : BitVec 32 := 1#32
  let arg12 : BitVec 32 := Scf.iv c0_i32_116 c1_i32 k0_t1
  let v705 : BitVec 32 := Scalar.muli c2_i32_420 arg12
  let c1_i32_421 : BitVec 32 := 1#32
  let v706 : BitVec 32 := Scalar.addi v705 c1_i32_421
  let c1_i32_422 : BitVec 32 := 1#32
  let v707 : BitVec 32 := Scalar.addi v706 c1_i32_422
  let c32_i32_423 : BitVec 32 := 32#32
  let v708 : BitVec 32 := Scalar.remsi v707 c32_i32_423
  let c8_i32_424 : BitVec 32 := 8#32
  let v709 : BitVec 32 := Scalar.divsi v708 c8_i32_424
  let c256_i32_425 : BitVec 32 := 256#32
  let v710 : BitVec 32 := Scalar.muli v709 c256_i32_425
  v710
def k0_mult8 (k0_t1 : Fin k0_t1_loop.trips) : BitVec 32 :=
  let c2_i32_420 : BitVec 32 := 2#32
  let c0_i32_116 : BitVec 32 := 0#32
  let c1_i32 : BitVec 32 := 1#32
  let arg12 : BitVec 32 := Scf.iv c0_i32_116 c1_i32 k0_t1
  let v705 : BitVec 32 := Scalar.muli c2_i32_420 arg12
  let c1_i32_421 : BitVec 32 := 1#32
  let v706 : BitVec 32 := Scalar.addi v705 c1_i32_421
  let c1_i32_422 : BitVec 32 := 1#32
  let v707 : BitVec 32 := Scalar.addi v706 c1_i32_422
  let c32_i32_423 : BitVec 32 := 32#32
  let v708 : BitVec 32 := Scalar.remsi v707 c32_i32_423
  let c8_i32_426 : BitVec 32 := 8#32
  let v712 : BitVec 32 := Scalar.remsi v708 c8_i32_426
  let c256_i32_427 : BitVec 32 := 256#32
  let v713 : BitVec 32 := Scalar.muli v712 c256_i32_427
  v713
def k0_off9 (i : grid0.Coords) (k0_t1 : Fin k0_t1_loop.trips) : Fin 1 → Nat :=
  let arg1 : BitVec 32 := BitVec.ofNat 32 (i 1).val
  let c8_i32_428 : BitVec 32 := 8#32
  let v715 : BitVec 32 := Scalar.muli arg1 c8_i32_428
  let c2_i32_420 : BitVec 32 := 2#32
  let c0_i32_116 : BitVec 32 := 0#32
  let c1_i32 : BitVec 32 := 1#32
  let arg12 : BitVec 32 := Scf.iv c0_i32_116 c1_i32 k0_t1
  let v705 : BitVec 32 := Scalar.muli c2_i32_420 arg12
  let c1_i32_421 : BitVec 32 := 1#32
  let v706 : BitVec 32 := Scalar.addi v705 c1_i32_421
  let c1_i32_422 : BitVec 32 := 1#32
  let v707 : BitVec 32 := Scalar.addi v706 c1_i32_422
  let c32_i32_423 : BitVec 32 := 32#32
  let v708 : BitVec 32 := Scalar.remsi v707 c32_i32_423
  let c8_i32_429 : BitVec 32 := 8#32
  let v716 : BitVec 32 := Scalar.remsi v708 c8_i32_429
  let v717 : BitVec 32 := Scalar.addi v715 v716
  let v718 : Index := Scalar.indexCast v717
  ![v718.toNat]
def k0_off10 (k0_t1 : Fin k0_t1_loop.trips) : Fin 3 → Nat :=
  let c0_434 : Index := 0#32
  let c2_i32_420 : BitVec 32 := 2#32
  let c0_i32_116 : BitVec 32 := 0#32
  let c1_i32 : BitVec 32 := 1#32
  let arg12 : BitVec 32 := Scf.iv c0_i32_116 c1_i32 k0_t1
  let v705 : BitVec 32 := Scalar.muli c2_i32_420 arg12
  let c1_i32_421 : BitVec 32 := 1#32
  let v706 : BitVec 32 := Scalar.addi v705 c1_i32_421
  let c1_i32_422 : BitVec 32 := 1#32
  let v707 : BitVec 32 := Scalar.addi v706 c1_i32_422
  let c32_i32_423 : BitVec 32 := 32#32
  let v708 : BitVec 32 := Scalar.remsi v707 c32_i32_423
  let c8_i32_424 : BitVec 32 := 8#32
  let v709 : BitVec 32 := Scalar.divsi v708 c8_i32_424
  let c256_i32_425 : BitVec 32 := 256#32
  let v710 : BitVec 32 := Scalar.muli v709 c256_i32_425
  let v711 : BitVec 32 := v710
  let v727 : Index := Scalar.indexCast v711
  let c8_i32_426 : BitVec 32 := 8#32
  let v712 : BitVec 32 := Scalar.remsi v708 c8_i32_426
  let c256_i32_427 : BitVec 32 := 256#32
  let v713 : BitVec 32 := Scalar.muli v712 c256_i32_427
  let v714 : BitVec 32 := v713
  let v728 : Index := Scalar.indexCast v714
  ![0, v727.toNat, v728.toNat]
def k0_off11 (i : grid0.Coords) (k0_t1 : Fin k0_t1_loop.trips) : Fin 1 → Nat :=
  let arg1 : BitVec 32 := BitVec.ofNat 32 (i 1).val
  let c8_i32_435 : BitVec 32 := 8#32
  let v735 : BitVec 32 := Scalar.muli arg1 c8_i32_435
  let c2_i32_420 : BitVec 32 := 2#32
  let c0_i32_116 : BitVec 32 := 0#32
  let c1_i32 : BitVec 32 := 1#32
  let arg12 : BitVec 32 := Scf.iv c0_i32_116 c1_i32 k0_t1
  let v705 : BitVec 32 := Scalar.muli c2_i32_420 arg12
  let c1_i32_421 : BitVec 32 := 1#32
  let v706 : BitVec 32 := Scalar.addi v705 c1_i32_421
  let c8_i32_436 : BitVec 32 := 8#32
  let v736 : BitVec 32 := Scalar.remsi v706 c8_i32_436
  let v737 : BitVec 32 := Scalar.addi v735 v736
  let v738 : Index := Scalar.indexCast v737
  ![v738.toNat]
def k0_mult9 (k0_t1 : Fin k0_t1_loop.trips) : BitVec 32 :=
  let c2_i32_420 : BitVec 32 := 2#32
  let c0_i32_116 : BitVec 32 := 0#32
  let c1_i32 : BitVec 32 := 1#32
  let arg12 : BitVec 32 := Scf.iv c0_i32_116 c1_i32 k0_t1
  let v705 : BitVec 32 := Scalar.muli c2_i32_420 arg12
  let c1_i32_421 : BitVec 32 := 1#32
  let v706 : BitVec 32 := Scalar.addi v705 c1_i32_421
  let c8_i32_711 : BitVec 32 := 8#32
  let v1178 : BitVec 32 := Scalar.divsi v706 c8_i32_711
  let c256_i32_712 : BitVec 32 := 256#32
  let v1179 : BitVec 32 := Scalar.muli v1178 c256_i32_712
  v1179
def k0_mult10 (k0_t1 : Fin k0_t1_loop.trips) : BitVec 32 :=
  let c2_i32_420 : BitVec 32 := 2#32
  let c0_i32_116 : BitVec 32 := 0#32
  let c1_i32 : BitVec 32 := 1#32
  let arg12 : BitVec 32 := Scf.iv c0_i32_116 c1_i32 k0_t1
  let v705 : BitVec 32 := Scalar.muli c2_i32_420 arg12
  let c1_i32_421 : BitVec 32 := 1#32
  let v706 : BitVec 32 := Scalar.addi v705 c1_i32_421
  let c8_i32_713 : BitVec 32 := 8#32
  let v1181 : BitVec 32 := Scalar.remsi v706 c8_i32_713
  let c256_i32_714 : BitVec 32 := 256#32
  let v1182 : BitVec 32 := Scalar.muli v1181 c256_i32_714
  v1182
def k0_off12 (k0_t1 : Fin k0_t1_loop.trips) : Fin 3 → Nat :=
  let c0_718 : Index := 0#32
  let c2_i32_420 : BitVec 32 := 2#32
  let c0_i32_116 : BitVec 32 := 0#32
  let c1_i32 : BitVec 32 := 1#32
  let arg12 : BitVec 32 := Scf.iv c0_i32_116 c1_i32 k0_t1
  let v705 : BitVec 32 := Scalar.muli c2_i32_420 arg12
  let c1_i32_421 : BitVec 32 := 1#32
  let v706 : BitVec 32 := Scalar.addi v705 c1_i32_421
  let c8_i32_711 : BitVec 32 := 8#32
  let v1178 : BitVec 32 := Scalar.divsi v706 c8_i32_711
  let c256_i32_712 : BitVec 32 := 256#32
  let v1179 : BitVec 32 := Scalar.muli v1178 c256_i32_712
  let v1180 : BitVec 32 := v1179
  let v1197 : Index := Scalar.indexCast v1180
  let c8_i32_713 : BitVec 32 := 8#32
  let v1181 : BitVec 32 := Scalar.remsi v706 c8_i32_713
  let c256_i32_714 : BitVec 32 := 256#32
  let v1182 : BitVec 32 := Scalar.muli v1181 c256_i32_714
  let v1183 : BitVec 32 := v1182
  let v1198 : Index := Scalar.indexCast v1183
  ![0, v1197.toNat, v1198.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x8192x4096 : Shape := ⟨3, ![8, 8192, 4096]⟩
abbrev S16 : Shape := ⟨1, ![16]⟩
abbrev S8x8192x512 : Shape := ⟨3, ![8, 8192, 512]⟩
abbrev S2 : Shape := ⟨1, ![2]⟩
abbrev S8x8192x2x8x256 : Shape := ⟨5, ![8, 8192, 2, 8, 256]⟩
abbrev S8x2x8x8192x256 : Shape := ⟨5, ![8, 2, 8, 8192, 256]⟩
abbrev S8x8192x2x256 : Shape := ⟨4, ![8, 8192, 2, 256]⟩
abbrev S8x2x8192x256 : Shape := ⟨4, ![8, 2, 8192, 256]⟩
abbrev S2x8 : Shape := ⟨2, ![2, 8]⟩
abbrev S2x1 : Shape := ⟨2, ![2, 1]⟩
abbrev S_ : Shape := ⟨0, ![]⟩
abbrev S16x65536x256 : Shape := ⟨3, ![16, 65536, 256]⟩
abbrev S16x8192x256 : Shape := ⟨3, ![16, 8192, 256]⟩
abbrev S16x65536x8192 : Shape := ⟨3, ![16, 65536, 8192]⟩
abbrev S8x2x8x8192x8192 : Shape := ⟨5, ![8, 2, 8, 8192, 8192]⟩
abbrev S1x2x8x1x1 : Shape := ⟨5, ![1, 2, 8, 1, 1]⟩
abbrev S8x2x8x8192 : Shape := ⟨4, ![8, 2, 8, 8192]⟩
abbrev S8x2x8x8192x1 : Shape := ⟨5, ![8, 2, 8, 8192, 1]⟩
abbrev S1x2x1x1x1 : Shape := ⟨5, ![1, 2, 1, 1, 1]⟩

abbrev nBuf : Space → Nat
  | .hbm => 23
  | .vmem => 6
  | .smem => 0
  | _ => 0

abbrev bufTy : (tb : Table) → Fin (tcTables nBuf tb) → BufTy
  | .hbm, ⟨0, _⟩ => ⟨S8x8192x4096, .fp8e4m3⟩
  | .hbm, ⟨1, _⟩ => ⟨S16, .f32⟩
  | .hbm, ⟨2, _⟩ => ⟨S8x8192x512, .fp8e4m3⟩
  | .hbm, ⟨3, _⟩ => ⟨S2, .f32⟩
  | .hbm, ⟨4, _⟩ => ⟨S8x8192x512, .fp8e4m3⟩
  | .hbm, ⟨5, _⟩ => ⟨S2, .f32⟩
  | .hbm, ⟨6, _⟩ => ⟨S8x8192x2x8x256, .fp8e4m3⟩
  | .hbm, ⟨7, _⟩ => ⟨S8x2x8x8192x256, .fp8e4m3⟩
  | .hbm, ⟨8, _⟩ => ⟨S8x8192x2x256, .fp8e4m3⟩
  | .hbm, ⟨9, _⟩ => ⟨S8x2x8192x256, .fp8e4m3⟩
  | .hbm, ⟨10, _⟩ => ⟨S8x8192x2x256, .fp8e4m3⟩
  | .hbm, ⟨11, _⟩ => ⟨S8x2x8192x256, .fp8e4m3⟩
  | .hbm, ⟨12, _⟩ => ⟨S2x8, .f32⟩
  | .hbm, ⟨13, _⟩ => ⟨S2x1, .f32⟩
  | .hbm, ⟨14, _⟩ => ⟨S2x8, .f32⟩
  | .hbm, ⟨15, _⟩ => ⟨S2x8, .f32⟩
  | .hbm, ⟨16, _⟩ => ⟨S_, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2, .f32⟩
  | .hbm, ⟨21, _⟩ => ⟨S2, .f32⟩
  | .hbm, ⟨22, _⟩ => ⟨S8x8192x4096, .bf16⟩
  | .local _ .vmem, ⟨0, _⟩ => ⟨S8x2x8x8192x256, .fp8e4m3⟩
  | .local _ .vmem, ⟨1, _⟩ => ⟨S8x2x8192x256, .fp8e4m3⟩
  | .local _ .vmem, ⟨2, _⟩ => ⟨S8x2x8192x256, .fp8e4m3⟩
  | .local _ .vmem, ⟨3, _⟩ => ⟨S2x8, .f32⟩
  | .local _ .vmem, ⟨4, _⟩ => ⟨S2, .f32⟩
  | .local _ .vmem, ⟨5, _⟩ => ⟨S8x8192x4096, .bf16⟩
  | _, _ => ⟨S8x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2x8x8192x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x8192x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.FrameRun.lean ====
/- The kernel as compiled, at any reading of its arithmetic: one call of the kernel body leaves its inputs alone. -/
module

public import proofs.«01_k».proof.Proof.Gen.Kernel.Frame.Runs

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body of the kernel as compiled, run once: from the six inputs' buffers at any contents, and the output's
    and the two scratch buffers at some contents, the body runs to its end and hands the inputs' buffers back as they
    were, and the output's and the scratch buffers at some contents. Nothing is said of what it stores. -/
theorem kernelRun0_A (c : Dev nD) (i : grid0.Coords) (arg3 : Memref sig .tc .smem S16 .f32) (harg3 : arg3.IsWhole) (arg4 : Memref sig .tc .smem S2 .f32) (harg4 : arg4.IsWhole) (arg5 : Memref sig .tc .smem S2 .f32) (harg5 : arg5.IsWhole) (arg6 : Memref sig .tc .vmem S1x1024x2048 .fp8e4m3) (harg6 : arg6.IsWhole) (arg7 : Memref sig .tc .vmem S1x8192x256 .fp8e4m3) (harg7 : arg7.IsWhole) (arg8 : Memref sig .tc .vmem S1x1x256x8192 .fp8e4m3) (harg8 : arg8.IsWhole) (arg9 : Memref sig .tc .vmem S1x1024x2048 .bf16) (harg9 : arg9.IsWhole) (arg10 : Memref sig .tc .vmem S8192x256 .f32) (harg10 : arg10.IsWhole) (arg11 : Memref sig .tc .vmem S8192x256 .f32) (harg11 : arg11.IsWhole)
    (x0 : Vec F S16 .f32) (x1 : Vec F S2 .f32) (x2 : Vec F S2 .f32) (x3 : Vec F S1x1024x2048 .fp8e4m3) (x4 : Vec F S1x8192x256 .fp8e4m3) (x5 : Vec F S1x1x256x8192 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fp8_gqa_attention i arg3 harg3 arg4 harg4 arg5 harg5 arg6 harg6 arg7 harg7 arg8 harg8 arg9 harg9 arg10 harg10 arg11 harg11) K := by
    intro E K
    simp only [cc0_fp8_gqa_attention_eq_skeleton]; unfold cc0_fp8_gqa_attention_skel
    simp only [k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
/- The frame of the kernel as compiled, at any reading of its arithmetic: every run terminates and leaves the arguments
   unchanged. What the kernel stores is not named here. -/
module

public import proofs.«01_k».proof.Proof.FrameRun
public import Idealize.ShloMosaic.Lib.Claim

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output window is left out of the statement: nothing is said of what the kernel leaves there. -/
def forgets0 : Fin 7 → Bool := fun w => w.val == 6

/-- The pipeline's proof data on core `c`: the arrays as the region finds them; each input's buffer at its block after
    every point; the output's buffer unnamed; the scratch buffers and the generator at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- The body leaves each input's buffer at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body the pipeline calls at point `t` is `bodyAt0`. -/
theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: the pipeline's postcondition with the output left out, and every semaphore at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the pipeline's input arrays unchanged and every other array outside the region as the region found it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that leaves the pipeline's input arrays as it found them leaves the six arguments unchanged. -/
theorem frame_of_loose (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 3 rfl).trans ((hA c 3).trans (V_main_arg0 m c)),
      (Pipeline.RDat.FramePost.arr_in h c 0 rfl).trans ((hA c 0).trans (V_main_arg1 m c)),
      (Pipeline.RDat.FramePost.arr_in h c 4 rfl).trans ((hA c 4).trans (V_main_arg2 m c)),
      (Pipeline.RDat.FramePost.arr_in h c 1 rfl).trans ((hA c 1).trans (V_main_arg3 m c)),
      ((h c).2 main_arg4 (Pipeline.mem_restRefs_of main_arg4 (by decide) (by decide))).trans (V_main_arg4 m c),
      (Pipeline.RDat.FramePost.arr_in h c 2 rfl).trans ((hA c 2).trans (V_main_arg5 m c))⟩) h

/-- Every run ends with the six arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_loose m ρ (fun c => (dats m 0 c).toRForget forgets0) (A_eq m) (run_main m ρ)

/-- The frame: every run terminates, with the six arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.Chunk.lean ====
/- What the kernel's block computes, as functions of the values it loads: the scores of one chunk of 512 keys, the
   running maximum, the probabilities, the running row sum, the running weighted values and the stored tile. The names
   are the kernel's own steps in the kernel's own order; nothing here is about memory. -/
module

public import proofs.«01_k».proof.Proof.Gen.KernelIdeal.Loops

@[expose] public section

noncomputable section

namespace Cert.KernelIdeal.Attn

open Idealize.ShloMosaic Cert.KernelIdeal.Gen

variable {F : FTy → Type} [FloatOps F] [Named F]

/-- The score scale of one head: query scale times key scale over sixteen. -/
def scaleOf (a b : F .f32) : F .f32 := Scalar.mulf (Scalar.mulf a b) (FloatOps.ofBits .f32 1031798784#32)

/-- The factor of the exponent, base two: the absolute score scale times the named constant. -/
def cscOf (a b : F .f32) : F .f32 := Scalar.mulf (Scalar.absf (scaleOf a b)) (Named.named κ "log2_e" 1069066811#32)

/-- The query tile, negated where the score scale is negative. -/
def qBlk (a b : F .f32) (xb : FVec F S1x256x256 .fp8e4m3) : FVec F S256x256 .fp8e4m3 :=
  truncf .fp8e4m3 (mulf (extf .bf16 (shapeCast S256x256 xb shapeCasts_S1x256x256_S256x256) bitsLt_fp8e4m3_bf16)
    (broadcast S256x256 (Scalar.truncf .bf16 bitsLt_bf16_f32
      (Scalar.select (Scalar.cmpf .olt (scaleOf a b) (FloatOps.ofBits .f32 0#32))
        (FloatOps.ofBits .f32 3212836864#32) (FloatOps.ofBits .f32 1065353216#32))))) bitsLt_fp8e4m3_bf16

/-- The unscaled scores of one chunk of keys against the query tile: key down, query across. -/
def score (kc : FVec F S1x512x256 .fp8e4m3) (q : FVec F S256x256 .fp8e4m3) : FVec F S512x256 .f32 :=
  matmul dot_S512x256_S256x256_S512x256_1_1_0_0_n_n none (shapeCast S512x256 kc shapeCasts_S1x512x256_S512x256) q
    (constant S512x256 .f32 0x00000000#32)

/-- One chunk's step of the running maximum. -/
def maxStep (rm : FVec F S32x256 .f32) (s : FVec F S512x256 .f32) : FVec F S32x256 .f32 :=
  maximumf rm (multiReduction .maximumf [0] S32x256 (shapeCast S16x32x256 s shapeCasts_S512x256_S16x32x256) 0xFF800000#32
    reduces_S16x32x256_S32x256 (.inl rfl) rfl)

/-- The probabilities of one chunk, times 256. -/
def prob (c : F .f32) (sh : FVec F S1x256 .f32) (s : FVec F S512x256 .f32) : FVec F S512x256 .f32 :=
  exp2 (subf (mulf s (broadcast S512x256 c)) (broadcastTo S512x256 sh broadcasts_S1x256_S512x256))

/-- One chunk's step of the running sum of the probabilities. -/
def sumStep (rs : FVec F S32x256 .f32) (p : FVec F S512x256 .f32) : FVec F S32x256 .f32 :=
  addf rs (multiReduction .add [0] S32x256 (shapeCast S16x32x256 p shapeCasts_S512x256_S16x32x256) 0x00000000#32
    reduces_S16x32x256_S32x256 (.inl rfl) rfl)

/-- The quantised probabilities of one chunk. -/
def codes (p : FVec F S512x256 .f32) : FVec F S512x256 .fp8e4m3 :=
  truncf .fp8e4m3 (minimumf (broadcast S512x256 (Scalar.ofBits .f32 0x43E00000#32))
    (maximumf (broadcast S512x256 (Scalar.ofBits .f32 0xC3E00000#32)) p)) bitsLt_fp8e4m3_f32

/-- One chunk's step of the running product of the values with the quantised probabilities. -/
def accStep (acc : FVec F S256x256 .f32) (vc : FVec F S1x1x256x512 .fp8e4m3) (p : FVec F S512x256 .f32) : FVec F S256x256 .f32 :=
  addf acc (matmul dot_S256x512_S512x256_S256x256_1_0_0_1_n_n none (shapeCast S256x512 vc shapeCasts_S1x1x256x512_S256x512)
    (codes p) (constant S256x256 .f32 0x00000000#32))

/-- The shift of the exponent: the largest score times the factor, less eight. -/
def shiftOf (c : F .f32) (rm : FVec F S32x256 .f32) : FVec F S1x256 .f32 :=
  subf (mulf (shapeCast S1x256 (multiReduction .maximumf [0] S256 rm 0xFF800000#32 reduces_S32x256_S256 (.inl rfl) rfl)
    shapeCasts_S256_S1x256) (broadcast S1x256 c)) (broadcast S1x256 (FloatOps.ofBits .f32 1090519040#32))

/-- The stored tile: the weighted values times the value scale over 256 over the row sum, query down. -/
def outOf (vs : F .f32) (rs : FVec F S32x256 .f32) (acc : FVec F S256x256 .f32) : FVec F S1x256x256 .bf16 :=
  shapeCast S1x256x256 (truncf .bf16 (transpose S256x256 [1, 0] (mulf acc (broadcastTo S256x256
    (divf (broadcast S1x256 (Scalar.mulf vs (FloatOps.ofBits .f32 998244352#32)))
      (mulf (shapeCast S1x256 (multiReduction .add [0] S256 rs 0x00000000#32 reduces_S32x256_S256 (.inl rfl) rfl) shapeCasts_S256_S1x256)
        (broadcast S1x256 (FloatOps.ofBits .f32 998244352#32)))) broadcasts_S1x256_S256x256)) transposes_S256x256_p1_0_S256x256)
    bitsLt_bf16_f32) shapeCasts_S256x256_S1x256x256

/-- The running maximum after the first chunks. -/
def runMax (v0 : FVec F S32x256 .f32) (s : ℕ → FVec F S512x256 .f32) : ℕ → FVec F S32x256 .f32
  | 0 => v0
  | j + 1 => maxStep (runMax v0 s j) (s j)

/-- The running row sum after the first chunks. -/
def runSum (v1 : FVec F S32x256 .f32) (p : ℕ → FVec F S512x256 .f32) : ℕ → FVec F S32x256 .f32
  | 0 => v1
  | j + 1 => sumStep (runSum v1 p j) (p j)

/-- The running weighted values after the first chunks. -/
def runAcc (v2 : FVec F S256x256 .f32) (v : ℕ → FVec F S1x1x256x512 .fp8e4m3) (p : ℕ → FVec F S512x256 .f32) :
    ℕ → FVec F S256x256 .f32
  | 0 => v2
  | j + 1 => accStep (runAcc v2 v p j) (v j) (p j)

/-- Chunk `j` of the keys is inside the key block. -/
theorem inbK (j : ℕ) : ∀ a, (![0, 512 * (j % 16), 0] : Fin 3 → ℕ) a + S1x512x256.size a ≤ S1x8192x256.size a := by
  intro a; fin_cases a <;> simp <;> omega

/-- Chunk `j` of the values is inside the value block. -/
theorem inbV (j : ℕ) : ∀ a, (![0, 0, 0, 512 * (j % 16)] : Fin 4 → ℕ) a + S1x1x256x512.size a ≤ S1x1x256x8192.size a := by
  intro a; fin_cases a <;> simp <;> omega

/-- Chunk `j` of the scores is inside the score buffer. -/
theorem inbS (j : ℕ) : ∀ a, (![512 * (j % 16), 0] : Fin 2 → ℕ) a + S512x256.size a ≤ S8192x256.size a := by
  intro a; fin_cases a <;> simp <;> omega

/-- Chunk `j` of the score buffer. -/
abbrev rectS (j : ℕ) : Rect S8192x256 := Rect.unit (s := S8192x256) ![512 * (j % 16), 0] S512x256.size (inbS j)

/-- The sixteen stores of an item's scores, last first. -/
def pieces (s : ℕ → FVec F S512x256 .f32) : ℕ → List (View.Piece (Elt F) S8192x256 .f32)
  | 0 => []
  | j + 1 => ⟨rectS j, s j⟩ :: pieces s j

end Cert.KernelIdeal.Attn

end
-- ==== Proof.Trip.lean ====
/- One trip of the kernel's loop, in the words of `Chunk`: what it hands to the next trip, the two tiles it stores and
   the scores it leaves in the two score buffers. -/
module

public import proofs.«01_k».proof.Proof.Chunk

@[expose] public section

noncomputable section

namespace Cert.KernelIdeal.Attn

open Idealize.ShloMosaic Idealize.ShloMosaic.TcCoe Cert.KernelIdeal.Gen

variable {F : FTy → Type} [FloatOps F] [Named F]

/-- The scalar a load of one element finds. -/
def ld16 (arg3 : Memref sig .tc .smem S16 .f32) (X : BufTy.Contents (Elt F) arg3.view.ty) (off : Fin 1 → ℕ)
    (h : ∀ a, off a + S1.size a ≤ S16.size a) : F .f32 :=
  View.readAt (Elt F) arg3.view (Rect.unit (s := S16) off S1.size h).toLoadRect X (Shape.Idx.first (by show 0 < S1.numel; rw [numel1_S1]; exact Nat.one_pos))

/-- The scalar a load of one element finds. -/
def ld2 (arg4 : Memref sig .tc .smem S2 .f32) (X : BufTy.Contents (Elt F) arg4.view.ty) (off : Fin 1 → ℕ)
    (h : ∀ a, off a + S1.size a ≤ S2.size a) : F .f32 :=
  View.readAt (Elt F) arg4.view (Rect.unit (s := S2) off S1.size h).toLoadRect X (Shape.Idx.first (by show 0 < S1.numel; rw [numel1_S1]; exact Nat.one_pos))

/-- The query tile a load finds. -/
def ldX (arg6 : Memref sig .tc .vmem S1x1024x2048 .fp8e4m3) (X : BufTy.Contents (Elt F) arg6.view.ty) (off : Fin 3 → ℕ)
    (h : ∀ a, off a + S1x256x256.size a ≤ S1x1024x2048.size a) : FVec F S1x256x256 .fp8e4m3 :=
  View.readAt (Elt F) arg6.view (Rect.unit (s := S1x1024x2048) off S1x256x256.size h).toLoadRect X

/-- Chunk `j` of the keys, as loaded. -/
def ldK (arg7 : Memref sig .tc .vmem S1x8192x256 .fp8e4m3) (X : BufTy.Contents (Elt F) arg7.view.ty) (j : ℕ) : FVec F S1x512x256 .fp8e4m3 :=
  View.readAt (Elt F) arg7.view (Rect.unit (s := S1x8192x256) ![0, 512 * (j % 16), 0] S1x512x256.size (inbK j)).toLoadRect X

/-- Chunk `j` of the values, as loaded. -/
def ldV (arg8 : Memref sig .tc .vmem S1x1x256x8192 .fp8e4m3) (X : BufTy.Contents (Elt F) arg8.view.ty) (j : ℕ) : FVec F S1x1x256x512 .fp8e4m3 :=
  View.readAt (Elt F) arg8.view (Rect.unit (s := S1x1x256x8192) ![0, 0, 0, 512 * (j % 16)] S1x1x256x512.size (inbV j)).toLoadRect X

/-- Chunk `j` of a score buffer, as loaded. -/
def ldS (arg10 : Memref sig .tc .vmem S8192x256 .f32) (X : BufTy.Contents (Elt F) arg10.view.ty) (j : ℕ) : FVec F S512x256 .f32 :=
  View.readAt (Elt F) arg10.view (rectS j).toLoadRect X

variable (𝒱 : Variants) (c : Dev nD) (bd : Option 𝒱.V) (i : grid0.Coords)
  (arg3 : Memref sig .tc .smem S16 .f32) (harg3 : arg3.IsWhole) (arg4 : Memref sig .tc .smem S2 .f32) (harg4 : arg4.IsWhole)
  (arg5 : Memref sig .tc .smem S2 .f32) (harg5 : arg5.IsWhole) (arg6 : Memref sig .tc .vmem S1x1024x2048 .fp8e4m3) (harg6 : arg6.IsWhole)
  (arg7 : Memref sig .tc .vmem S1x8192x256 .fp8e4m3) (harg7 : arg7.IsWhole) (arg8 : Memref sig .tc .vmem S1x1x256x8192 .fp8e4m3) (harg8 : arg8.IsWhole)
  (arg9 : Memref sig .tc .vmem S1x1024x2048 .bf16) (harg9 : arg9.IsWhole) (arg10 : Memref sig .tc .vmem S8192x256 .f32) (harg10 : arg10.IsWhole)
  (arg11 : Memref sig .tc .vmem S8192x256 .f32) (harg11 : arg11.IsWhole) (arg1 : BitVec 32)
  (v0 v1 : FVec F S32x256 .f32) (v2 : FVec F S256x256 .f32)
  (X_arg3 : BufTy.Contents (Elt F) arg3.view.ty) (X_arg4 : BufTy.Contents (Elt F) arg4.view.ty) (X_arg5 : BufTy.Contents (Elt F) arg5.view.ty)
  (X_arg6 : BufTy.Contents (Elt F) arg6.view.ty) (X_arg7 : BufTy.Contents (Elt F) arg7.view.ty) (X_arg8 : BufTy.Contents (Elt F) arg8.view.ty)
  (k : Fin k0_t1_loop.trips) (acc : FVec F S1x256 .f32)
  (f9 : BufTy.Contents (Elt F) arg9.view.ty) (f10 : BufTy.Contents (Elt F) arg10.view.ty) (f11 : BufTy.Contents (Elt F) arg11.view.ty)

/-- The scores of the trip's odd item. -/
def sOdd (j : ℕ) : FVec F S512x256 .f32 :=
  score (ldK arg7 X_arg7 j) (qBlk (ld16 arg3 X_arg3 _ (k0_off4_inb i k)) (ld2 arg4 X_arg4 _ (k0_off5_inb i)) (ldX arg6 X_arg6 _ (k0_off6_inb k)))

/-- The scores of the next trip's even item. -/
def sNext (j : ℕ) : FVec F S512x256 .f32 :=
  score (ldK arg7 X_arg7 j) (qBlk (ld16 arg3 X_arg3 _ (k0_off9_inb i k)) (ld2 arg4 X_arg4 _ (k0_off5_inb i)) (ldX arg6 X_arg6 _ (k0_off10_inb k)))

/-- What the trip hands on: the shift of the next even item. -/
theorem trip_R : tripR_k0_t1 𝒱 c bd i arg3 harg3 arg4 harg4 arg5 harg5 arg6 harg6 arg7 harg7 arg8 harg8 arg9 harg9 arg10 harg10 arg11 harg11 arg1
      v0 v1 v2 X_arg3 X_arg4 X_arg5 X_arg6 X_arg7 X_arg8 k acc f9 f10 f11
    = shiftOf (cscOf (ld16 arg3 X_arg3 _ (k0_off9_inb i k)) (ld2 arg4 X_arg4 _ (k0_off5_inb i)))
        (runMax v0 (sNext i arg3 arg4 arg6 arg7 X_arg3 X_arg4 X_arg6 X_arg7 k) 16) := by
  unfold tripR_k0_t1 trip_k0_t1
  rfl

/-- The score buffer the trip fills for the next trip: the sixteen chunks of the next even item. -/
theorem trip_L10 : (tripL_k0_t1 𝒱 c bd i arg3 harg3 arg4 harg4 arg5 harg5 arg6 harg6 arg7 harg7 arg8 harg8 arg9 harg9 arg10 harg10 arg11 harg11 arg1
      v0 v1 v2 X_arg3 X_arg4 X_arg5 X_arg6 X_arg7 X_arg8 k acc f9 f10 f11).2.1
    = pieces (fun j => shapeCast S512x256 (sNext i arg3 arg4 arg6 arg7 X_arg3 X_arg4 X_arg6 X_arg7 k j) shapeCasts_S512x256_S512x256) 16 := by
  unfold tripL_k0_t1 trip_k0_t1
  rfl

/-- The shift of the trip's odd item. -/
def shOdd : FVec F S1x256 .f32 :=
  shiftOf (cscOf (ld16 arg3 X_arg3 _ (k0_off4_inb i k)) (ld2 arg4 X_arg4 _ (k0_off5_inb i)))
    (runMax v0 (sOdd i arg3 arg4 arg6 arg7 X_arg3 X_arg4 X_arg6 X_arg7 k) 16)

/-- The sixteen stores of the odd item's scores. -/
def pOdd : List (View.Piece (Elt F) S8192x256 .f32) :=
  pieces (fun j => shapeCast S512x256 (sOdd i arg3 arg4 arg6 arg7 X_arg3 X_arg4 X_arg6 X_arg7 k j) shapeCasts_S512x256_S512x256) 16

/-- Chunk `j` of the odd item's probabilities. -/
def prOdd (j : ℕ) : FVec F S512x256 .f32 :=
  prob (cscOf (ld16 arg3 X_arg3 _ (k0_off11_inb i k)) (ld2 arg4 X_arg4 _ (k0_off5_inb i)))
    (shOdd i arg3 arg4 arg6 arg7 v0 X_arg3 X_arg4 X_arg6 X_arg7 k)
    (arg11.view.readCov (pOdd i arg3 arg4 arg6 arg7 X_arg3 X_arg4 X_arg6 X_arg7 k) (rectS j).toLoadRect)

/-- Chunk `j` of the even item's probabilities. -/
def prEven (j : ℕ) : FVec F S512x256 .f32 :=
  prob (cscOf (ld16 arg3 X_arg3 _ (k0_off7_inb i k)) (ld2 arg4 X_arg4 _ (k0_off5_inb i))) acc (ldS arg10 f10 j)

/-- The two tiles the trip stores. -/
theorem trip_L9 : (tripL_k0_t1 𝒱 c bd i arg3 harg3 arg4 harg4 arg5 harg5 arg6 harg6 arg7 harg7 arg8 harg8 arg9 harg9 arg10 harg10 arg11 harg11 arg1
      v0 v1 v2 X_arg3 X_arg4 X_arg5 X_arg6 X_arg7 X_arg8 k acc f9 f10 f11).1
    = [⟨Rect.unit (s := S1x1024x2048) (k0_off12 k) S1x256x256.size (k0_off12_inb k),
          outOf (ld2 arg5 X_arg5 _ (k0_off5_inb i)) (runSum v1 (prOdd i arg3 arg4 arg6 arg7 arg11 v0 X_arg3 X_arg4 X_arg6 X_arg7 k) 16)
            (runAcc v2 (ldV arg8 X_arg8) (prOdd i arg3 arg4 arg6 arg7 arg11 v0 X_arg3 X_arg4 X_arg6 X_arg7 k) 16)⟩,
        ⟨Rect.unit (s := S1x1024x2048) (k0_off8 k) S1x256x256.size (k0_off8_inb k),
          outOf (ld2 arg5 X_arg5 _ (k0_off5_inb i)) (runSum v1 (prEven i arg3 arg4 arg10 X_arg3 X_arg4 k acc f10) 16)
            (runAcc v2 (ldV arg8 X_arg8) (prEven i arg3 arg4 arg10 X_arg3 X_arg4 k acc f10) 16)⟩] := by
  unfold tripL_k0_t1 trip_k0_t1
  rfl

end Cert.KernelIdeal.Attn

end
-- ==== Proof.Items.lean ====
/- The kernel's loop, item by item. Item `n` of a grid point is one query tile of one head: rows `256 * (n / 8)` onward,
   head `n % 8` of the group. The functions below say what the kernel computes for it from the blocks it is given; the
   theorems say that one trip of the loop stores the tiles of its two items and hands on the next one's scores. -/
module

public import proofs.«01_k».proof.Proof.Trip

@[expose] public section

noncomputable section

namespace Cert.KernelIdeal.Attn

open Idealize.ShloMosaic Idealize.ShloMosaic.TcCoe Cert.KernelIdeal.Gen

variable {F : FTy → Type} [FloatOps F] [Named F]

/-- A box of a block, as a function of the box's own index. -/
def rd {s : Shape} {α : Type} (v : s.Idx → α) (off size : Fin s.rank → ℕ) (h : ∀ a, off a + size a ≤ s.size a) :
    (Rect.unit off size h).shape.Idx → α := fun y => v ((Rect.unit off size h).toLoadRect.idx y)

/-- The scale of head `n % 8` of the group is inside the scales. -/
theorem inbQ (i : grid0.Coords) (n : ℕ) : ∀ a, (![8 * (i 1).val + n % 8] : Fin 1 → ℕ) a + S1.size a ≤ S16.size a := by
  have h : (i 1).val < 2 := (i 1).isLt
  intro a; fin_cases a; simp; omega

/-- The group's own scale is inside the scales. -/
theorem inbG (i : grid0.Coords) : ∀ a, (![(i 1).val] : Fin 1 → ℕ) a + S1.size a ≤ S2.size a := by
  have h : (i 1).val < 2 := (i 1).isLt
  intro a; fin_cases a; simp; omega

/-- The query tile of item `n` is inside the block. -/
theorem inbX (n : ℕ) : ∀ a, (![0, 256 * (n % 32 / 8), 256 * (n % 8)] : Fin 3 → ℕ) a + S1x256x256.size a ≤ S1x1024x2048.size a := by
  intro a; fin_cases a <;> simp <;> omega

/-- The one index of a vector of one element. -/
abbrev one : S1.Idx := Shape.Idx.first (by rw [numel1_S1]; exact Nat.one_pos)

section Blocks

variable (i : grid0.Coords) (x0 : Vec F S16 .f32) (x1 x2 : Vec F S2 .f32) (x3 : Vec F S1x1024x2048 .fp8e4m3)
  (x4 : Vec F S1x8192x256 .fp8e4m3) (x5 : Vec F S1x1x256x8192 .fp8e4m3) (v0 v1 : FVec F S32x256 .f32) (v2 : FVec F S256x256 .f32)

/-- The query scale of item `n`. -/
def qsAt (n : ℕ) : F .f32 := rd (s := S16) x0 ![8 * (i 1).val + n % 8] S1.size (inbQ i n) one

/-- A scale of the group: the key scale, or the value scale. -/
def gsAt (x : Vec F S2 .f32) : F .f32 := rd (s := S2) x ![(i 1).val] S1.size (inbG i) one

/-- The query tile of item `n`. -/
def xAt (n : ℕ) : FVec F S1x256x256 .fp8e4m3 := rd (s := S1x1024x2048) x3 ![0, 256 * (n % 32 / 8), 256 * (n % 8)] S1x256x256.size (inbX n)

/-- Chunk `j` of the keys. -/
def kAt (j : ℕ) : FVec F S1x512x256 .fp8e4m3 := rd (s := S1x8192x256) x4 ![0, 512 * (j % 16), 0] S1x512x256.size (inbK j)

/-- Chunk `j` of the values. -/
def vAt (j : ℕ) : FVec F S1x1x256x512 .fp8e4m3 := rd (s := S1x1x256x8192) x5 ![0, 0, 0, 512 * (j % 16)] S1x1x256x512.size (inbV j)

/-- The scores of item `n` against chunk `j`. -/
def SC (n j : ℕ) : FVec F S512x256 .f32 := score (kAt x4 j) (qBlk (qsAt i x0 n) (gsAt i x1) (xAt x3 n))

/-- The exponent's factor of item `n`. -/
def CS (n : ℕ) : F .f32 := cscOf (qsAt i x0 n) (gsAt i x1)

/-- The exponent's shift of item `n`. -/
def SH (n : ℕ) : FVec F S1x256 .f32 := shiftOf (CS i x0 x1 n) (runMax v0 (SC i x0 x1 x3 x4 n) 16)

/-- The probabilities of item `n` over chunk `j`. -/
def PR (n j : ℕ) : FVec F S512x256 .f32 := prob (CS i x0 x1 n) (SH i x0 x1 x3 x4 v0 n) (SC i x0 x1 x3 x4 n j)

/-- The tile of item `n`. -/
def OUT (n : ℕ) : FVec F S1x256x256 .bf16 :=
  outOf (gsAt i x2) (runSum v1 (PR i x0 x1 x3 x4 v0 n) 16) (runAcc v2 (vAt x5) (PR i x0 x1 x3 x4 v0 n) 16)

end Blocks

/-- The running sum reads only the chunks it has added. -/
theorem runSum_congr (v1 : FVec F S32x256 .f32) {p p' : ℕ → FVec F S512x256 .f32} :
    ∀ n, (∀ j < n, p j = p' j) → runSum v1 p n = runSum v1 p' n
  | 0, _ => rfl
  | n + 1, h => by rw [runSum, runSum, runSum_congr v1 n fun j hj => h j (by omega), h n (by omega)]

/-- The running product reads only the chunks it has added. -/
theorem runAcc_congr (v2 : FVec F S256x256 .f32) (v : ℕ → FVec F S1x1x256x512 .fp8e4m3) {p p' : ℕ → FVec F S512x256 .f32} :
    ∀ n, (∀ j < n, p j = p' j) → runAcc v2 v p n = runAcc v2 v p' n
  | 0, _ => rfl
  | n + 1, h => by rw [runAcc, runAcc, runAcc_congr v2 v n fun j hj => h j (by omega), h n (by omega)]

/-- A chunk of the score buffer holds what the chunk's own store left there. -/
theorem readAt_pieces (arg10 : Memref sig .tc .vmem S8192x256 .f32) (s : ℕ → FVec F S512x256 .f32) (f : BufTy.Contents (Elt F) arg10.view.ty)
    (j : ℕ) : ∀ n, j < n → n ≤ 16 → View.readAt (Elt F) arg10.view (rectS j).toLoadRect (arg10.view.writes (Elt F) f (pieces s n)) = s j
  | 0, h, _ => absurd h (by omega)
  | n + 1, h, hn => by
    by_cases hj : j = n
    · subst hj
      funext y
      rw [View.readAt_apply]
      exact View.read_writes_cons_emb _ _ _ _ _ _
    · rw [← readAt_pieces arg10 s f j n (by omega) (by omega)]
      funext y
      rw [View.readAt_apply, View.readAt_apply]
      refine View.read_writes_cons_miss_of_axis arg10.view f ⟨rectS n, s n⟩ (pieces s n) ((rectS j).toLoadRect.idx y) (0 : Fin 2)
        (512 * (n % 16)) 512 rfl rfl rfl ?_
      have e : (((rectS j).toLoadRect.idx y) 0).val = 512 * (j % 16) + 1 * (y 0).val := rfl
      have : (y 0).val < 512 := (y 0).isLt
      rw [e]
      omega

end Cert.KernelIdeal.Attn

end
-- ==== Proof.Loop.lean ====
/- The kernel's loop over its sixteen trips: whatever the trip, the carried shift and the score buffer are those of the
   trip's even item, and every tile stored so far is its item's own tile. -/
module

public import proofs.«01_k».proof.Proof.Items
public import Idealize.ShloMosaic.Lib.Pointwise
public import Idealize.ShloMosaic.Lib.Pointwise.Reshape

@[expose] public section

noncomputable section

namespace Cert.KernelIdeal.Attn

open Idealize.ShloMosaic Idealize.ShloMosaic.TcCoe Cert.KernelIdeal.Gen

variable {F : FTy → Type} [FloatOps F] [Named F]

/-- A load of one scale, read off the scales. -/
theorem ld16_eq (i : grid0.Coords) (arg3 : Memref sig .tc .smem S16 .f32) (X : BufTy.Contents (Elt F) arg3.view.ty) (x0 : Vec F S16 .f32)
    (hX : arg3.view.read (Elt F) X = x0) (n : ℕ) (off : Fin 1 → ℕ) (h) (ho : off = ![8 * (i 1).val + n % 8]) :
    ld16 arg3 X off h = qsAt i x0 n := by subst hX ho; rfl

/-- A load of the group's scale, read off the scales. -/
theorem ld2_eq (i : grid0.Coords) (arg4 : Memref sig .tc .smem S2 .f32) (X : BufTy.Contents (Elt F) arg4.view.ty) (x1 : Vec F S2 .f32)
    (hX : arg4.view.read (Elt F) X = x1) (off : Fin 1 → ℕ) (h) (ho : off = ![(i 1).val]) :
    ld2 arg4 X off h = gsAt i x1 := by subst hX ho; rfl

/-- A load of a query tile, read off the block. -/
theorem ldX_eq (arg6 : Memref sig .tc .vmem S1x1024x2048 .fp8e4m3) (X : BufTy.Contents (Elt F) arg6.view.ty) (x3 : Vec F S1x1024x2048 .fp8e4m3)
    (hX : arg6.view.read (Elt F) X = x3) (n : ℕ) (off : Fin 3 → ℕ) (h) (ho : off = ![0, 256 * (n % 32 / 8), 256 * (n % 8)]) :
    ldX arg6 X off h = xAt x3 n := by subst hX ho; rfl

/-- A load of a chunk of keys, read off the block. -/
theorem ldK_eq (arg7 : Memref sig .tc .vmem S1x8192x256 .fp8e4m3) (X : BufTy.Contents (Elt F) arg7.view.ty) (x4 : Vec F S1x8192x256 .fp8e4m3)
    (hX : arg7.view.read (Elt F) X = x4) : ldK arg7 X = kAt x4 := by subst hX; rfl

/-- A load of a chunk of values, read off the block. -/
theorem ldV_eq (arg8 : Memref sig .tc .vmem S1x1x256x8192 .fp8e4m3) (X : BufTy.Contents (Elt F) arg8.view.ty) (x5 : Vec F S1x1x256x8192 .fp8e4m3)
    (hX : arg8.view.read (Elt F) X = x5) : ldV arg8 X = vAt x5 := by subst hX; rfl

/-- Where the tile of item `n` lies in the block, and what the block holds there. -/
def OUTARR (i : grid0.Coords) (x0 : Vec F S16 .f32) (x1 x2 : Vec F S2 .f32) (x3 : Vec F S1x1024x2048 .fp8e4m3)
    (x4 : Vec F S1x8192x256 .fp8e4m3) (x5 : Vec F S1x1x256x8192 .fp8e4m3) (v0 v1 : FVec F S32x256 .f32) (v2 : FVec F S256x256 .f32)
    (y : S1x1024x2048.Idx) : Elt F .bf16 :=
  OUT i x0 x1 x2 x3 x4 x5 v0 v1 v2 (8 * ((y 1).val / 256) + (y 2).val / 256)
    (ix3 (0 : Fin 1) (⟨(y 1).val % 256, Nat.mod_lt _ (by decide)⟩ : Fin 256) (⟨(y 2).val % 256, Nat.mod_lt _ (by decide)⟩ : Fin 256))

/-- A tile stored at item `n`'s place is the block's own contents there. -/
theorem OUTARR_emb (i : grid0.Coords) (x0 : Vec F S16 .f32) (x1 x2 : Vec F S2 .f32) (x3 : Vec F S1x1024x2048 .fp8e4m3)
    (x4 : Vec F S1x8192x256 .fp8e4m3) (x5 : Vec F S1x1x256x8192 .fp8e4m3) (v0 v1 : FVec F S32x256 .f32) (v2 : FVec F S256x256 .f32)
    (n : ℕ) (off : Fin 3 → ℕ) (h : ∀ a, off a + S1x256x256.size a ≤ S1x1024x2048.size a)
    (ho : off = ![0, 256 * (n / 8), 256 * (n % 8)]) (x : S1x256x256.Idx) :
    OUT i x0 x1 x2 x3 x4 x5 v0 v1 v2 n x
      = OUTARR i x0 x1 x2 x3 x4 x5 v0 v1 v2 ((Rect.unit (s := S1x1024x2048) off S1x256x256.size h).emb x) := by
  subst ho
  have h1 : (x 1).val < 256 := (x 1).isLt
  have h2 : (x 2).val < 256 := (x 2).isLt
  have e1 : (((Rect.unit (s := S1x1024x2048) _ S1x256x256.size h).emb x) 1).val = 256 * (n / 8) + 1 * (x 1).val := rfl
  have e2 : (((Rect.unit (s := S1x1024x2048) _ S1x256x256.size h).emb x) 2).val = 256 * (n % 8) + 1 * (x 2).val := rfl
  unfold OUTARR
  rw [show 8 * ((((Rect.unit (s := S1x1024x2048) _ S1x256x256.size h).emb x) 1).val / 256)
      + (((Rect.unit (s := S1x1024x2048) _ S1x256x256.size h).emb x) 2).val / 256 = n by rw [e1, e2]; omega]
  congr 1
  rw [eq_ix3 (n0 := 1) (n1 := 256) (n2 := 256) x]
  congr 1
  · exact Subsingleton.elim (α := Fin 1) _ _
  · apply Fin.ext; show (x 1).val = (256 * (n / 8) + 1 * (x 1).val) % 256; omega
  · apply Fin.ext; show (x 2).val = (256 * (n % 8) + 1 * (x 2).val) % 256; omega

/-- An index of the block whose item is `n` is in item `n`'s tile. -/
theorem mem_tile (n : ℕ) (off : Fin 3 → ℕ) (h : ∀ a, off a + S1x256x256.size a ≤ S1x1024x2048.size a)
    (ho : off = ![0, 256 * (n / 8), 256 * (n % 8)]) (y : S1x1024x2048.Idx) (hy : 8 * ((y 1).val / 256) + (y 2).val / 256 = n) :
    y ∈ (Rect.unit (s := S1x1024x2048) off S1x256x256.size h).set := by
  subst ho
  have h0 : (y 0).val < 1 := (y 0).isLt
  have h1 : (y 1).val < 1024 := (y 1).isLt
  have h2 : (y 2).val < 2048 := (y 2).isLt
  rw [Rect.mem_set_unit]
  intro a; fin_cases a
  · show 0 ≤ (y 0).val ∧ (y 0).val < 0 + 1; omega
  · show 256 * (n / 8) ≤ (y 1).val ∧ (y 1).val < 256 * (n / 8) + 256; omega
  · show 256 * (n % 8) ≤ (y 2).val ∧ (y 2).val < 256 * (n % 8) + 256; omega

section Trips

variable (𝒱 : Variants) (c : Dev nD) (bd : Option 𝒱.V) (i : grid0.Coords)
  (arg3 : Memref sig .tc .smem S16 .f32) (harg3 : arg3.IsWhole) (arg4 : Memref sig .tc .smem S2 .f32) (harg4 : arg4.IsWhole)
  (arg5 : Memref sig .tc .smem S2 .f32) (harg5 : arg5.IsWhole) (arg6 : Memref sig .tc .vmem S1x1024x2048 .fp8e4m3) (harg6 : arg6.IsWhole)
  (arg7 : Memref sig .tc .vmem S1x8192x256 .fp8e4m3) (harg7 : arg7.IsWhole) (arg8 : Memref sig .tc .vmem S1x1x256x8192 .fp8e4m3) (harg8 : arg8.IsWhole)
  (arg9 : Memref sig .tc .vmem S1x1024x2048 .bf16) (harg9 : arg9.IsWhole) (arg10 : Memref sig .tc .vmem S8192x256 .f32) (harg10 : arg10.IsWhole)
  (arg11 : Memref sig .tc .vmem S8192x256 .f32) (harg11 : arg11.IsWhole) (arg1 : BitVec 32)
  (v0 v1 : FVec F S32x256 .f32) (v2 : FVec F S256x256 .f32)
  (X_arg3 : BufTy.Contents (Elt F) arg3.view.ty) (X_arg4 : BufTy.Contents (Elt F) arg4.view.ty) (X_arg5 : BufTy.Contents (Elt F) arg5.view.ty)
  (X_arg6 : BufTy.Contents (Elt F) arg6.view.ty) (X_arg7 : BufTy.Contents (Elt F) arg7.view.ty) (X_arg8 : BufTy.Contents (Elt F) arg8.view.ty)
  (x0 : Vec F S16 .f32) (x1 x2 : Vec F S2 .f32) (x3 : Vec F S1x1024x2048 .fp8e4m3)
  (x4 : Vec F S1x8192x256 .fp8e4m3) (x5 : Vec F S1x1x256x8192 .fp8e4m3)
  (h3 : arg3.view.read (Elt F) X_arg3 = x0) (h4 : arg4.view.read (Elt F) X_arg4 = x1) (h5 : arg5.view.read (Elt F) X_arg5 = x2)
  (h6 : arg6.view.read (Elt F) X_arg6 = x3) (h7 : arg7.view.read (Elt F) X_arg7 = x4) (h8 : arg8.view.read (Elt F) X_arg8 = x5)
  (k : Fin k0_t1_loop.trips)

include h3 h4 h6 h7 in
/-- The odd item's scores are item `2 k + 1`'s. -/
theorem sOdd_eq : sOdd i arg3 arg4 arg6 arg7 X_arg3 X_arg4 X_arg6 X_arg7 k = SC i x0 x1 x3 x4 (2 * k.val + 1) := by
  have hk : k.val < 16 := Nat.lt_of_lt_of_le k.isLt k0_t1_abs.2.1
  funext j
  unfold sOdd SC
  rw [ld16_eq i arg3 X_arg3 x0 h3 (2 * k.val + 1) _ _ (k0_off4_eq i k), ld2_eq i arg4 X_arg4 x1 h4 _ _ (k0_off5_eq i),
    ldX_eq arg6 X_arg6 x3 h6 (2 * k.val + 1) _ _ ((k0_off6_eq k).trans (by rw [Nat.mod_eq_of_lt (a := 2 * k.val + 1) (b := 32) (by omega)])),
    ldK_eq arg7 X_arg7 x4 h7]

include h3 h4 h6 h7 in
/-- The scores left for the next trip are item `(2 k + 2) % 32`'s. -/
theorem sNext_eq : sNext i arg3 arg4 arg6 arg7 X_arg3 X_arg4 X_arg6 X_arg7 k = SC i x0 x1 x3 x4 ((2 * k.val + 2) % 32) := by
  funext j
  unfold sNext SC
  rw [ld16_eq i arg3 X_arg3 x0 h3 ((2 * k.val + 2) % 32) _ _ (k0_off9_eq i k), ld2_eq i arg4 X_arg4 x1 h4 _ _ (k0_off5_eq i),
    ldX_eq arg6 X_arg6 x3 h6 ((2 * k.val + 2) % 32) _ _ ((k0_off10_eq k).trans (by rw [Nat.mod_mod (2 * k.val + 2) 32])),
    ldK_eq arg7 X_arg7 x4 h7]

include h3 h4 h6 h7 in
/-- The odd item's probabilities are item `2 k + 1`'s. -/
theorem prOdd_eq (j : ℕ) (hj : j < 16) : prOdd i arg3 arg4 arg6 arg7 arg11 v0 X_arg3 X_arg4 X_arg6 X_arg7 k j = PR i x0 x1 x3 x4 v0 (2 * k.val + 1) j := by
  have e : arg11.view.readCov (pOdd i arg3 arg4 arg6 arg7 X_arg3 X_arg4 X_arg6 X_arg7 k) (rectS j).toLoadRect
      = SC i x0 x1 x3 x4 (2 * k.val + 1) j := by
    unfold pOdd View.readCov
    rw [readAt_pieces arg11 _ _ j 16 hj le_rfl, shapeCast_id, sOdd_eq i arg3 arg4 arg6 arg7 X_arg3 X_arg4 X_arg6 X_arg7 x0 x1 x3 x4 h3 h4 h6 h7 k]
  unfold prOdd PR shOdd SH CS
  rw [e, sOdd_eq i arg3 arg4 arg6 arg7 X_arg3 X_arg4 X_arg6 X_arg7 x0 x1 x3 x4 h3 h4 h6 h7 k,
    ld16_eq i arg3 X_arg3 x0 h3 (2 * k.val + 1) _ _ (k0_off11_eq i k), ld16_eq i arg3 X_arg3 x0 h3 (2 * k.val + 1) _ _ (k0_off4_eq i k),
    ld2_eq i arg4 X_arg4 x1 h4 _ _ (k0_off5_eq i)]

include h3 h4 in
/-- The even item's probabilities are item `2 k`'s, if the carried shift and the score buffer are that item's. -/
theorem prEven_eq (acc : FVec F S1x256 .f32) (f10 : BufTy.Contents (Elt F) arg10.view.ty) (hacc : acc = SH i x0 x1 x3 x4 v0 (2 * k.val))
    (hf : ∀ j < 16, ldS arg10 f10 j = SC i x0 x1 x3 x4 (2 * k.val) j) (j : ℕ) (hj : j < 16) :
    prEven i arg3 arg4 arg10 X_arg3 X_arg4 k acc f10 j = PR i x0 x1 x3 x4 v0 (2 * k.val) j := by
  unfold prEven PR CS
  rw [hf j hj, hacc, ld16_eq i arg3 X_arg3 x0 h3 (2 * k.val) _ _ (k0_off7_eq i k), ld2_eq i arg4 X_arg4 x1 h4 _ _ (k0_off5_eq i)]

/-- What holds before trip `k`: the carried shift and the score buffer are item `2 k`'s (counted modulo the items),
    every tile stored so far is its item's, and the tiles of the items before `2 k` are all stored. -/
def Inv (G10 : BufTy.Contents (Elt F) arg10.view.ty) (k : ℕ) (st : (FVec F S1x256 .f32) × List (View.Piece (Elt F) S1x1024x2048 .bf16)
    × List (View.Piece (Elt F) S8192x256 .f32) × List (View.Piece (Elt F) S8192x256 .f32)) : Prop :=
  st.1 = SH i x0 x1 x3 x4 v0 (2 * k % 32)
  ∧ (∀ j < 16, ldS arg10 (arg10.view.writes (Elt F) G10 st.2.2.1) j = SC i x0 x1 x3 x4 (2 * k % 32) j)
  ∧ (∀ p ∈ st.2.1, ∀ x : p.1.shape.Idx, p.2 x = OUTARR i x0 x1 x2 x3 x4 x5 v0 v1 v2 (p.1.emb x))
  ∧ ∀ y : S1x1024x2048.Idx, 8 * ((y 1).val / 256) + (y 2).val / 256 < 2 * k → ∃ p ∈ st.2.1, y ∈ p.1.set

include h3 h4 h5 h6 h7 h8 in
/-- One trip keeps the invariant. -/
theorem inv_step (G9 : BufTy.Contents (Elt F) arg9.view.ty) (G10 : BufTy.Contents (Elt F) arg10.view.ty) (G11 : BufTy.Contents (Elt F) arg11.view.ty)
    (init : FVec F S1x256 .f32)
    (ih : Inv i arg10 v0 v1 v2 x0 x1 x2 x3 x4 x5 G10 k.val
      (st_k0_t1 𝒱 c bd i arg3 harg3 arg4 harg4 arg5 harg5 arg6 harg6 arg7 harg7 arg8 harg8 arg9 harg9 arg10 harg10 arg11 harg11 arg1
        v0 v1 v2 X_arg3 X_arg4 X_arg5 X_arg6 X_arg7 X_arg8 G9 G10 G11 init k.val)) :
    Inv i arg10 v0 v1 v2 x0 x1 x2 x3 x4 x5 G10 (k.val + 1)
      (st_k0_t1 𝒱 c bd i arg3 harg3 arg4 harg4 arg5 harg5 arg6 harg6 arg7 harg7 arg8 harg8 arg9 harg9 arg10 harg10 arg11 harg11 arg1
        v0 v1 v2 X_arg3 X_arg4 X_arg5 X_arg6 X_arg7 X_arg8 G9 G10 G11 init (k.val + 1)) := by
  have hk : k.val < 16 := Nat.lt_of_lt_of_le k.isLt k0_t1_abs.2.1
  rw [st_k0_t1_succ]
  obtain ⟨i1, i2, i3, i4⟩ := ih
  rw [show 2 * k.val % 32 = 2 * k.val by omega] at i1 i2
  generalize st_k0_t1 𝒱 c bd i arg3 harg3 arg4 harg4 arg5 harg5 arg6 harg6 arg7 harg7 arg8 harg8 arg9 harg9 arg10 harg10 arg11 harg11 arg1
        v0 v1 v2 X_arg3 X_arg4 X_arg5 X_arg6 X_arg7 X_arg8 G9 G10 G11 init k.val = st at i1 i2 i3 i4 ⊢
  rw [trip_R, trip_L10, trip_L9, sNext_eq i arg3 arg4 arg6 arg7 X_arg3 X_arg4 X_arg6 X_arg7 x0 x1 x3 x4 h3 h4 h6 h7 k,
    ld16_eq i arg3 X_arg3 x0 h3 ((2 * k.val + 2) % 32) _ _ (k0_off9_eq i k), ld2_eq i arg4 X_arg4 x1 h4 _ _ (k0_off5_eq i),
    ld2_eq i arg5 X_arg5 x2 h5 _ _ (k0_off5_eq i), ldV_eq arg8 X_arg8 x5 h8,
    runSum_congr v1 16 (prOdd_eq i arg3 arg4 arg6 arg7 arg11 v0 X_arg3 X_arg4 X_arg6 X_arg7 x0 x1 x3 x4 h3 h4 h6 h7 k),
    runAcc_congr v2 (vAt x5) 16 (prOdd_eq i arg3 arg4 arg6 arg7 arg11 v0 X_arg3 X_arg4 X_arg6 X_arg7 x0 x1 x3 x4 h3 h4 h6 h7 k),
    runSum_congr v1 16 (prEven_eq i arg3 arg4 arg10 v0 X_arg3 X_arg4 x0 x1 x3 x4 h3 h4 k _ _ i1 i2),
    runAcc_congr v2 (vAt x5) 16 (prEven_eq i arg3 arg4 arg10 v0 X_arg3 X_arg4 x0 x1 x3 x4 h3 h4 k _ _ i1 i2)]
  unfold Inv
  rw [show 2 * (k.val + 1) = 2 * k.val + 2 by omega]
  refine ⟨rfl, fun j hj => ?_, fun p hp => ?_, fun y hy => ?_⟩
  · unfold ldS
    rw [View.writes_append, readAt_pieces arg10 _ _ j 16 hj le_rfl, shapeCast_id]
  · rcases List.mem_append.mp hp with hp | hp
    · rcases List.mem_cons.mp hp with rfl | hp
      · exact OUTARR_emb i x0 x1 x2 x3 x4 x5 v0 v1 v2 (2 * k.val + 1) _ (k0_off12_inb k) (k0_off12_eq k)
      · rcases List.mem_cons.mp hp with rfl | hp
        · exact OUTARR_emb i x0 x1 x2 x3 x4 x5 v0 v1 v2 (2 * k.val) _ (k0_off8_inb k) (k0_off8_eq k)
        · exact absurd hp List.not_mem_nil
    · exact i3 p hp
  · rcases Nat.lt_or_ge (8 * ((y 1).val / 256) + (y 2).val / 256) (2 * k.val) with h | h
    · obtain ⟨p, hp, hm⟩ := i4 y h
      exact ⟨p, List.mem_append_right _ hp, hm⟩
    · rcases Nat.lt_or_ge (8 * ((y 1).val / 256) + (y 2).val / 256) (2 * k.val + 1) with h' | h'
      · exact ⟨_, List.mem_append_left _ (List.mem_cons_of_mem _ List.mem_cons_self),
          mem_tile (2 * k.val) _ (k0_off8_inb k) (k0_off8_eq k) y (by omega)⟩
      · exact ⟨_, List.mem_append_left _ List.mem_cons_self,
          mem_tile (2 * k.val + 1) _ (k0_off12_inb k) (k0_off12_eq k) y (by omega)⟩

include h3 h4 h5 h6 h7 h8 in
/-- So every tile the loop stores is its item's, if the loop starts from item 0's shift and scores. -/
theorem tiles (G9 : BufTy.Contents (Elt F) arg9.view.ty) (G10 : BufTy.Contents (Elt F) arg10.view.ty) (G11 : BufTy.Contents (Elt F) arg11.view.ty)
    (init : FVec F S1x256 .f32) (hinit : init = SH i x0 x1 x3 x4 v0 0) (hG : ∀ j < 16, ldS arg10 G10 j = SC i x0 x1 x3 x4 0 j) (n : ℕ)
    (hn : n ≤ k0_t1_loop.trips) :
    Inv i arg10 v0 v1 v2 x0 x1 x2 x3 x4 x5 G10 n
      (st_k0_t1 𝒱 c bd i arg3 harg3 arg4 harg4 arg5 harg5 arg6 harg6 arg7 harg7 arg8 harg8 arg9 harg9 arg10 harg10 arg11 harg11 arg1
        v0 v1 v2 X_arg3 X_arg4 X_arg5 X_arg6 X_arg7 X_arg8 G9 G10 G11 init n) := by
  induction n with
  | zero => exact ⟨hinit, hG, fun p hp => absurd hp List.not_mem_nil, fun y hy => absurd hy (by omega)⟩
  | succ n ih =>
    exact inv_step 𝒱 c bd i arg3 harg3 arg4 harg4 arg5 harg5 arg6 harg6 arg7 harg7 arg8 harg8 arg9 harg9 arg10 harg10 arg11 harg11 arg1
      v0 v1 v2 X_arg3 X_arg4 X_arg5 X_arg6 X_arg7 X_arg8 x0 x1 x2 x3 x4 x5 h3 h4 h5 h6 h7 h8 ⟨n, hn⟩ G9 G10 G11 init (ih (Nat.le_of_succ_le hn))

include h3 h4 h5 h6 h7 h8 in
/-- What the block's buffer holds after the loop: every item's tile. -/
theorem read_tiles (f : BufTy.Contents (Elt F) arg9.view.ty) (G9 : BufTy.Contents (Elt F) arg9.view.ty) (G10 : BufTy.Contents (Elt F) arg10.view.ty)
    (G11 : BufTy.Contents (Elt F) arg11.view.ty)
    (init : FVec F S1x256 .f32) (hinit : init = SH i x0 x1 x3 x4 v0 0) (hG : ∀ j < 16, ldS arg10 G10 j = SC i x0 x1 x3 x4 0 j) :
    arg9.view.read (Elt F) (arg9.view.writes (Elt F) f
      (st_k0_t1 𝒱 c bd i arg3 harg3 arg4 harg4 arg5 harg5 arg6 harg6 arg7 harg7 arg8 harg8 arg9 harg9 arg10 harg10 arg11 harg11 arg1
        v0 v1 v2 X_arg3 X_arg4 X_arg5 X_arg6 X_arg7 X_arg8 G9 G10 G11 init k0_t1_loop.trips).2.1)
      = OUTARR i x0 x1 x2 x3 x4 x5 v0 v1 v2 := by
  obtain ⟨-, -, h, hc⟩ := tiles 𝒱 c bd i arg3 harg3 arg4 harg4 arg5 harg5 arg6 harg6 arg7 harg7 arg8 harg8 arg9 harg9 arg10 harg10 arg11 harg11 arg1
      v0 v1 v2 X_arg3 X_arg4 X_arg5 X_arg6 X_arg7 X_arg8 x0 x1 x2 x3 x4 x5 h3 h4 h5 h6 h7 h8 G9 G10 G11 init hinit hG _ le_rfl
  funext y
  have h1 : (y 1).val < 1024 := (y 1).isLt
  have h2 : (y 2).val < 2048 := (y 2).isLt
  have ht : k0_t1_loop.trips = 16 := by decide
  exact View.read_writes_apply_of_pieces arg9.view f _ _ h y (hc y (by omega))

end Trips

end Cert.KernelIdeal.Attn

end
-- ==== Proof.Body.lean ====
/- The body on one grid point: run from whole buffers holding the blocks, it leaves every item's tile in the output's
   buffer. -/
module

public import proofs.«01_k».proof.Proof.Gen.KernelIdeal.Frame.Runs
public import proofs.«01_k».proof.Proof.Loop

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output's buffer: every item's tile, from constant starting values. -/
def OUTBLK (i : grid0.Coords) (x0 : Vec F S16 .f32) (x1 x2 : Vec F S2 .f32) (x3 : Vec F S1x1024x2048 .fp8e4m3)
    (x4 : Vec F S1x8192x256 .fp8e4m3) (x5 : Vec F S1x1x256x8192 .fp8e4m3) : Vec F S1x1024x2048 .bf16 :=
  Attn.OUTARR i x0 x1 x2 x3 x4 x5  k0_pay193 k0_pay194 k0_pay195

section First

variable (i : grid0.Coords) (arg3 : Memref sig .tc .smem S16 .f32) (arg4 : Memref sig .tc .smem S2 .f32)
  (arg6 : Memref sig .tc .vmem S1x1024x2048 .fp8e4m3) (arg7 : Memref sig .tc .vmem S1x8192x256 .fp8e4m3)
  (X3 : BufTy.Contents (Elt F) arg3.view.ty) (X4 : BufTy.Contents (Elt F) arg4.view.ty)
  (X6 : BufTy.Contents (Elt F) arg6.view.ty) (X7 : BufTy.Contents (Elt F) arg7.view.ty)
  (x0 : Vec F S16 .f32) (x1 : Vec F S2 .f32) (x3 : Vec F S1x1024x2048 .fp8e4m3) (x4 : Vec F S1x8192x256 .fp8e4m3)
  (h3 : arg3.view.read (Elt F) X3 = x0) (h4 : arg4.view.read (Elt F) X4 = x1)
  (h6 : arg6.view.read (Elt F) X6 = x3) (h7 : arg7.view.read (Elt F) X7 = x4)

/-- The first item's scores, from the loads before the loop. -/
def score0 (j : ℕ) : FVec F S512x256 .f32 :=
  Attn.score (Attn.ldK arg7 X7 j) (Attn.qBlk (Attn.ld16 arg3 X3 _ (k0_off1_inb i)) (Attn.ld2 arg4 X4 _ (k0_off2_inb i)) (Attn.ldX arg6 X6 _ k0_off3_inb))

include h3 h4 h6 h7 in
/-- They are item 0's. -/
theorem SC_zero (j : ℕ) : Attn.SC i x0 x1 x3 x4 0 j = score0 i arg3 arg4 arg6 arg7 X3 X4 X6 X7 j := by
  unfold score0 Attn.SC
  rw [Attn.ld16_eq i arg3 X3 x0 h3 0 _ _ (k0_off1_eq i), Attn.ld2_eq i arg4 X4 x1 h4 _ _ (k0_off2_eq i),
    Attn.ldX_eq arg6 X6 x3 h6 0 _ _ k0_off3_eq, Attn.ldK_eq arg7 X7 x4 h7]

include h3 h4 h6 h7 in
/-- So the shift the loop starts from is item 0's. -/
theorem SH_zero (v0 : FVec F S32x256 .f32) : Attn.SH i x0 x1 x3 x4 v0 0
    = Attn.shiftOf (Attn.cscOf (Attn.ld16 arg3 X3 _ (k0_off1_inb i)) (Attn.ld2 arg4 X4 _ (k0_off2_inb i)))
        (Attn.runMax v0 (score0 i arg3 arg4 arg6 arg7 X3 X4 X6 X7) 16) := by
  have e : Attn.SC i x0 x1 x3 x4 0 = score0 i arg3 arg4 arg6 arg7 X3 X4 X6 X7 :=
    funext (SC_zero i arg3 arg4 arg6 arg7 X3 X4 X6 X7 x0 x1 x3 x4 h3 h4 h6 h7)
  unfold Attn.SH Attn.CS
  rw [e, Attn.ld16_eq i arg3 X3 x0 h3 0 _ _ (k0_off1_eq i), Attn.ld2_eq i arg4 X4 x1 h4 _ _ (k0_off2_eq i)]

end First

/-- The body, on whole buffers that hold the blocks: it leaves the blocks as they were and the output's buffer at
    `OUTBLK`. -/
theorem body_run (c : Dev nD) (i : grid0.Coords) (arg3 : Memref sig .tc .smem S16 .f32) (harg3 : arg3.IsWhole) (arg4 : Memref sig .tc .smem S2 .f32) (harg4 : arg4.IsWhole) (arg5 : Memref sig .tc .smem S2 .f32) (harg5 : arg5.IsWhole) (arg6 : Memref sig .tc .vmem S1x1024x2048 .fp8e4m3) (harg6 : arg6.IsWhole) (arg7 : Memref sig .tc .vmem S1x8192x256 .fp8e4m3) (harg7 : arg7.IsWhole) (arg8 : Memref sig .tc .vmem S1x1x256x8192 .fp8e4m3) (harg8 : arg8.IsWhole) (arg9 : Memref sig .tc .vmem S1x1024x2048 .bf16) (harg9 : arg9.IsWhole) (arg10 : Memref sig .tc .vmem S8192x256 .f32) (harg10 : arg10.IsWhole) (arg11 : Memref sig .tc .vmem S8192x256 .f32) (harg11 : arg11.IsWhole)
    (x0 : Vec F S16 .f32) (x1 : Vec F S2 .f32) (x2 : Vec F S2 .f32) (x3 : Vec F S1x1024x2048 .fp8e4m3) (x4 : Vec F S1x8192x256 .fp8e4m3) (x5 : Vec F S1x1x256x8192 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (OUTBLK i x0 x1 x2 x3 x4 x5) ∗ (∃ d, owns (c : Thread nD τ) arg10 fullShare d) ∗ (∃ d, owns (c : Thread nD τ) arg11 fullShare d)) -∗ K ⟨⟩))
          ⊢ wp frame (wpE (defs₀ (F := F)) Variants.none c none) E (cc0_fp8_gqa_attention i arg3 harg3 arg4 harg4 arg5 harg5 arg6 harg6 arg7 harg7 arg8 harg8 arg9 harg9 arg10 harg10 arg11 harg11) K := by
  intro E K
  simp only [cc0_fp8_gqa_attention_eq_skeleton]; unfold cc0_fp8_gqa_attention_skel
  simp only [k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine Attn.read_tiles _ _ _ i arg3 harg3 arg4 harg4 arg5 harg5 arg6 harg6 arg7 harg7 arg8 harg8 arg9 harg9 arg10 harg10 arg11 harg11 _ _ _ _ _ _ _ _ _ _
      x0 x1 x2 x3 x4 x5 hf0 hf1 hf2 hf3 hf4 hf5 _ _ _ _ _ ?_ ?_
    · rw [SH_zero i arg3 arg4 arg6 arg7 _ _ _ _ x0 x1 x3 x4 hf0 hf1 hf3 hf4]
      rfl
    · intro j hj
      rw [SC_zero i arg3 arg4 arg6 arg7 _ _ _ _ x0 x1 x3 x4 hf0 hf1 hf3 hf4, ← shapeCast_id (score0 i arg3 arg4 arg6 arg7 _ _ _ _ j) shapeCasts_S512x256_S512x256,
        ← Attn.readAt_pieces arg10 (fun j => shapeCast S512x256 (score0 i arg3 arg4 arg6 arg7 _ _ _ _ j) shapeCasts_S512x256_S512x256) arg10.view.junk j 16 hj le_rfl]
      rfl
  isplitl [HS0]
  · iexists _, _; isplitr; swap; · iexact HS0
    ipureintro; rfl
  iexists _, _; isplitr; swap; · iexact HS1
  ipureintro; rfl

end Cert.KernelIdeal.Gen

end
-- ==== Proof.KernelRun.lean ====
/- The whole run of the kernel: the pipeline's proof data with the output's blocks named (`OUTBLK`), the body's
   obligation from `body_run`, the frame, and the output array block by block. -/
module

public import proofs.«01_k».proof.Proof.Body
public import Idealize.ShloMosaic.Lib.Claim
public import Idealize.ShloMosaic.Lib.Pipeline.Value

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the outputs' staging buffers hold after the body at point `t`: the run's contents at
    the point's memrefs and input blocks. -/
def outsAt0 (c : Dev nD) (t : Fin cfg0.N) : Vec F S1x1024x2048 .bf16 :=
  OUTBLK (grid0.coords t) (iblk m c 0 t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- After the body, window 1's buffer holds the block it found. -/
theorem after0_1 (c : Dev nD) (t : Fin cfg0.N) : (dats m 0 c).after 1 t = iblk m c 1 t := by dsimp only [dats]
/-- After the body, window 2's buffer holds the block it found. -/
theorem after0_2 (c : Dev nD) (t : Fin cfg0.N) : (dats m 0 c).after 2 t = iblk m c 2 t := by dsimp only [dats]
/-- After the body, window 3's buffer holds the block it found. -/
theorem after0_3 (c : Dev nD) (t : Fin cfg0.N) : (dats m 0 c).after 3 t = iblk m c 3 t := by dsimp only [dats]
/-- After the body, window 4's buffer holds the block it found. -/
theorem after0_4 (c : Dev nD) (t : Fin cfg0.N) : (dats m 0 c).after 4 t = iblk m c 4 t := by dsimp only [dats]
/-- After the body, window 5's buffer holds the block it found. -/
theorem after0_5 (c : Dev nD) (t : Fin cfg0.N) : (dats m 0 c).after 5 t = iblk m c 5 t := by dsimp only [dats]
/-- After the body, window 6's buffer holds every item's tile. -/
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before the body, input window 1's buffer holds its block. -/
theorem before0_1 (c : Dev nD) (t : Fin cfg0.N) (d) : (dats m 0 c).before 1 t d = iblk m c 1 t :=
  before0_1_of m (dats m 0 c) (A_eq m c 1) (after0_1 m c) t d
/-- Before the body, input window 2's buffer holds its block. -/
theorem before0_2 (c : Dev nD) (t : Fin cfg0.N) (d) : (dats m 0 c).before 2 t d = iblk m c 2 t :=
  before0_2_of m (dats m 0 c) (A_eq m c 2) (after0_2 m c) t d
/-- Before the body, input window 3's buffer holds its block. -/
theorem before0_3 (c : Dev nD) (t : Fin cfg0.N) (d) : (dats m 0 c).before 3 t d = iblk m c 3 t :=
  before0_3_of m (dats m 0 c) (A_eq m c 3) (after0_3 m c) t d
/-- Before the body, input window 4's buffer holds its block. -/
theorem before0_4 (c : Dev nD) (t : Fin cfg0.N) (d) : (dats m 0 c).before 4 t d = iblk m c 4 t :=
  before0_4_of m (dats m 0 c) (A_eq m c 4) (after0_4 m c) t d
/-- Before the body, input window 5's buffer holds its block. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`), read through the window's block. -/
theorem flushed6 (c : Dev nD) (t : Fin cfg0.N) :
    (dats m 0 c).flushed 6 t = (cfg0.win 6).cut (grid0.coords t) (outsAt0 m c t) := by
  show (cfg0.win 6).cut (grid0.coords t) ((dats m 0 c).after 6 t) = _
  rw [after0_6]

/-- The index map sends distinct grid points to distinct block indices (decided over the 128 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8x8192x4096.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2) = (dats m 0 c).arrAt 6 cfg0.N :=
  (h c).1 6

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 0 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 1 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 1).trans (((dats m 0 c).arrAt_in 1 rfl _).trans ((A_eq m c 1).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 2 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 2).trans (((dats m 0 c).arrAt_in 2 rfl _).trans ((A_eq m c 2).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.Consts.lean ====
/- The constants of the two programs, as real numbers. -/
module

public import Idealize.ShloMosaic.PureOps.Ideal

@[expose] public section

namespace Cert.Attention

open Idealize.ShloMosaic

/-- Minus infinity. -/
theorem bits_neg_inf : Ideal.ofBits .f32 4286578688#32 = ⊥ := by
  simp [Ideal.ofBits, Ideal.ieee]

/-- One sixteenth. -/
theorem bits_sixteenth : Ideal.ofBits .f32 1031798784#32 = ((1 / 16 : ℝ) : EReal) := by
  simp [Ideal.ofBits, Ideal.ieee, -EReal.coe_mul]; norm_num

/-- Minus one. -/
theorem bits_neg_one : Ideal.ofBits .f32 3212836864#32 = ((-1 : ℝ) : EReal) := by
  simp [Ideal.ofBits, Ideal.ieee, -EReal.coe_mul]; norm_num

/-- 448. -/
theorem bits_448 : Ideal.ofBits .f32 1138753536#32 = ((448 : ℝ) : EReal) := by
  simp [Ideal.ofBits, Ideal.ieee, -EReal.coe_mul]; norm_num

/-- Minus 448. -/
theorem bits_neg_448 : Ideal.ofBits .f32 3286237184#32 = ((-448 : ℝ) : EReal) := by
  simp [Ideal.ofBits, Ideal.ieee, -EReal.coe_mul]; norm_num

/-- Eight. -/
theorem bits_eight : Ideal.ofBits .f32 1090519040#32 = ((8 : ℝ) : EReal) := by
  simp [Ideal.ofBits, Ideal.ieee, -EReal.coe_mul]; norm_num

/-- One over 256. -/
theorem bits_256th : Ideal.ofBits .f32 998244352#32 = ((1 / 256 : ℝ) : EReal) := by
  simp [Ideal.ofBits, Ideal.ieee, -EReal.coe_mul]; norm_num

/-- 256. -/
theorem bits_256 : Ideal.ofBits .f32 1132462080#32 = ((256 : ℝ) : EReal) := by
  simp [Ideal.ofBits, Ideal.ieee, -EReal.coe_mul]; norm_num

end Cert.Attention
-- ==== Proof.Row.lean ====
/- One row of attention over the extended reals, twice: as the kernel computes it (base-two exponentials, the scale taken
   out of the scores and into the exponent) and as the reference does. The theorem `kernelRow_eq_refRow` says they agree
   when the score scale is not negative. -/
module

public import Idealize.ShloMosaic.PureOps.Ideal
public import Mathlib.Analysis.SpecialFunctions.Pow.Real

@[expose] public section

noncomputable section

namespace Cert.Attention

open Idealize.ShloMosaic

/-- The column of the result that holds element `d` of head `g` of group `h`. -/
abbrev colOf (h : Fin 2) (g : Fin 8) (d : Fin 256) : Fin 4096 := ⟨h.val * 2048 + g.val * 256 + d.val, by omega⟩

/-- The column of the keys and of the values that holds element `d` of group `h`. -/
abbrev colK (h : Fin 2) (d : Fin 256) : Fin 512 := ⟨h.val * 256 + d.val, by omega⟩

/-- The head of group `h`. -/
abbrev headOf (h : Fin 2) (g : Fin 8) : Fin 16 := ⟨h.val * 8 + g.val, by omega⟩

/-- What a probability times 256 is clipped to before it is quantised. -/
def clip (p : EReal) : EReal := min ((448 : ℝ) : EReal) (max ((-448 : ℝ) : EReal) p)

/-- The score scale: query scale times key scale over sixteen. -/
def scale (a b : EReal) : EReal := a * b * ((1 / 16 : ℝ) : EReal)

/-- The number the kernel multiplies the query by: the sign of the score scale. -/
def sgn (a b : EReal) : EReal := if scale a b < 0 then ((-1 : ℝ) : EReal) else 1

/-- The kernel's exponent factor: the absolute score scale over `log 2`. -/
def factor (a b : EReal) : EReal := max (scale a b) (-scale a b) * (((Real.log 2)⁻¹ : ℝ) : EReal)

/-- The kernel's probabilities times 256: base two, shifted by the largest score less eight. -/
def kernelProb {ι : Type} [Fintype ι] (a b : EReal) (S : ι → EReal) (k : ι) : EReal :=
  Ideal.exp2 (S k * factor a b - (Finset.univ.fold max ⊥ S * factor a b - ((8 : ℝ) : EReal)))

/-- One element of the kernel's result, from the unscaled scores `S`, the values `V` and the three scales. -/
def kernelRow {ι : Type} [Fintype ι] (a b w : EReal) (S V : ι → EReal) : EReal :=
  (∑ k, V k * clip (kernelProb a b S k))
    * Ideal.div (w * ((1 / 256 : ℝ) : EReal)) ((∑ k, kernelProb a b S k) * ((1 / 256 : ℝ) : EReal))

/-- The reference's probabilities. -/
def refProb {ι : Type} [Fintype ι] (T : ι → EReal) (k : ι) : EReal :=
  Ideal.exp (T k - Finset.univ.fold max ⊥ T)

/-- One element of the reference's result, from the scaled scores `T`, the values `V` and the value scale. -/
def refRow {ι : Type} [Fintype ι] (w : EReal) (T V : ι → EReal) : EReal :=
  (∑ k, clip (refProb T k * ((256 : ℝ) : EReal)) * V k) * Ideal.div (w * ((1 / 256 : ℝ) : EReal)) (∑ k, refProb T k)

/-- Scaling by a nonnegative number passes through a maximum. -/
theorem fold_max_mul {ι : Type} [Fintype ι] [Nonempty ι] (σ : EReal) (hσ : 0 ≤ σ) (S : ι → EReal) :
    Finset.univ.fold max ⊥ S * σ = Finset.univ.fold max ⊥ fun k => S k * σ := by
  obtain ⟨k₀, hk⟩ := Finite.exists_max S
  have h1 : Finset.univ.fold max ⊥ S = S k₀ :=
    le_antisymm ((Finset.fold_max_le _).2 ⟨bot_le, fun k _ => hk k⟩) ((Finset.le_fold_max _).2 (Or.inr ⟨k₀, Finset.mem_univ _, le_rfl⟩))
  rw [h1]
  exact (le_antisymm ((Finset.fold_max_le _).2 ⟨bot_le, fun k _ => mul_le_mul_of_nonneg_right (hk k) hσ⟩)
    ((Finset.le_fold_max _).2 (Or.inr ⟨k₀, Finset.mem_univ _, le_rfl⟩))).symm

/-- One exponential: base two of the difference over `log 2` plus eight is 256 times base e of the difference. -/
theorem exp2_shift (t u : EReal) (h : t ≤ u) :
    Ideal.exp2 (t * (((Real.log 2)⁻¹ : ℝ) : EReal) - (u * (((Real.log 2)⁻¹ : ℝ) : EReal) - ((8 : ℝ) : EReal)))
      = Ideal.exp (t - u) * ((256 : ℝ) : EReal) := by
  have hl : 0 < (Real.log 2)⁻¹ := inv_pos.2 (Real.log_pos one_lt_two)
  have h2 : Real.log 2 ≠ 0 := (Real.log_pos one_lt_two).ne'
  induction t using EReal.rec with
  | bot => simp [EReal.bot_mul_coe_of_pos hl, EReal.bot_sub]
  | top =>
    obtain rfl : u = ⊤ := top_le_iff.1 h
    simp [EReal.top_mul_coe_of_pos hl]
  | coe t =>
    induction u using EReal.rec with
    | bot => exact absurd h (by simp)
    | top => simp [EReal.top_mul_coe_of_pos hl]
    | coe u =>
      rw [← EReal.coe_mul, ← EReal.coe_mul, ← EReal.coe_sub, ← EReal.coe_sub, ← EReal.coe_sub, Ideal.exp2_coe, Ideal.exp_coe, ← EReal.coe_mul]
      congr 1
      rw [Real.rpow_eq_pow, Real.rpow_def_of_pos two_pos, show (256 : ℝ) = Real.exp (8 * Real.log 2) by
        rw [mul_comm, Real.exp_mul, Real.exp_log two_pos]; norm_num, ← Real.exp_add]
      congr 1
      field_simp
      ring

/-- The exponential is not negative. -/
theorem exp_nonneg (x : EReal) : 0 ≤ Ideal.exp x := by
  induction x using EReal.rec with
  | bot => simp
  | top => simp
  | coe x => rw [Ideal.exp_coe]; exact_mod_cast (Real.exp_pos x).le

/-- A probability is not negative. -/
theorem refProb_nonneg {ι : Type} [Fintype ι] (T : ι → EReal) (k : ι) : 0 ≤ refProb T k := exp_nonneg _

/-- The kernel's row is the reference's, where the score scale is not negative and the reference's scores are the
    kernel's, scaled. -/
theorem kernelRow_eq_refRow {ι : Type} [Fintype ι] [Nonempty ι] (a b w : EReal) (S V T : ι → EReal) (hσ : 0 ≤ scale a b)
    (hT : ∀ k, T k = S k * scale a b) : kernelRow a b w S V = refRow w T V := by
  obtain rfl : T = fun k => S k * scale a b := funext hT
  have hf : factor a b = scale a b * (((Real.log 2)⁻¹ : ℝ) : EReal) := by
    unfold factor
    rw [max_eq_left]
    exact (EReal.neg_le_neg_iff.2 hσ).trans (by simpa using hσ)
  have hp : ∀ k, kernelProb a b S k = refProb (fun k => S k * scale a b) k * ((256 : ℝ) : EReal) := by
    intro k
    unfold kernelProb refProb
    rw [hf, ← mul_assoc, ← mul_assoc, fold_max_mul _ hσ, exp2_shift]
    exact (Finset.le_fold_max _).2 (Or.inr ⟨k, Finset.mem_univ _, le_rfl⟩)
  have hs : (∑ k, kernelProb a b S k) * ((1 / 256 : ℝ) : EReal) = ∑ k, refProb (fun k => S k * scale a b) k := by
    simp only [hp]
    have : ∀ s : Finset ι, (∑ k ∈ s, refProb (fun k => S k * scale a b) k * ((256 : ℝ) : EReal))
        = (∑ k ∈ s, refProb (fun k => S k * scale a b) k) * ((256 : ℝ) : EReal) := by
      intro s
      classical
      induction s using Finset.induction_on with
      | empty => simp
      | insert k s hk ih =>
        rw [Finset.sum_insert hk, Finset.sum_insert hk, ih, EReal.right_distrib_of_nonneg (refProb_nonneg _ _) (Finset.sum_nonneg fun _ _ => refProb_nonneg _ _)]
    rw [this, mul_assoc, ← EReal.coe_mul]
    norm_num
  unfold kernelRow refRow
  rw [hs]
  simp only [hp, mul_comm (V _)]

end Cert.Attention

end
-- ==== Proof.Tile.lean ====
/- The kernel's tile over the extended reals: each step of `Chunk` read at an index, the sixteen chunks gathered into one
   row of 8192 keys, and the tile of an item as `kernelRow` of the item's query row, the keys and the values. -/
module

public import proofs.«01_k».proof.Proof.Loop
public import proofs.«01_k».proof.Proof.Consts
public import proofs.«01_k».proof.Proof.Row
public import Idealize.ShloMosaic.Lib.Pointwise
public import Idealize.ShloMosaic.PureOps.IdealRules

@[expose] public section

noncomputable section

namespace Cert.KernelIdeal.Attn

open Idealize.ShloMosaic Cert.KernelIdeal.Gen Cert.Attention

/-- The row of a score chunk that the `a`-th slice of 32 rows has at `r`. -/
abbrev sub (a : Fin 16) (r : Fin 32) : Fin 512 := ⟨a.val * 32 + r.val, by omega⟩

/-- A score is the dot product of a key and a query. -/
theorem score_apply (kc : FVec Ideal S1x512x256 .fp8e4m3) (q : FVec Ideal S256x256 .fp8e4m3) (r : Fin 512) (c : Fin 256) :
    score (F := Ideal) kc q (ix2 r c) = ∑ d : Fin 256, kc (ix3 0 r d) * q (ix2 c d) := by
  pointwise [score]

/-- The kernel's score scale is `scale`. -/
theorem scaleOf_eq (a b : EReal) : scaleOf (F := Ideal) a b = scale a b := by
  show a * b * Ideal.ofBits .f32 1031798784#32 = _
  rw [bits_sixteenth]; rfl

/-- The factor of the kernel's exponent is `factor`. -/
theorem cscOf_eq (a b : EReal) : cscOf (F := Ideal) a b = factor a b := by
  unfold cscOf factor
  rw [IdealRules.named_const.ideal_named_scalar Cert.KernelIdeal.κ "log2_e" _ _ rfl, scaleOf_eq]
  rfl

/-- The query tile carries the sign of the score scale. -/
theorem qBlk_apply (a b : EReal) (xb : FVec Ideal S1x256x256 .fp8e4m3) (r : Fin 256) (c : Fin 256) :
    qBlk (F := Ideal) a b xb (ix2 r c) = xb (ix3 0 r c) * sgn a b := by
  pointwise [qBlk, scaleOf_eq, bits_neg_one]
  rfl

/-- One step of the running maximum bounds its start and the chunk's rows that fold onto it. -/
theorem maxStep_le (rm : FVec Ideal S32x256 .f32) (s : FVec Ideal S512x256 .f32) (r : Fin 32) (c : Fin 256) (M : EReal) :
    maxStep (F := Ideal) rm s (ix2 r c) ≤ M ↔ rm (ix2 r c) ≤ M ∧ ∀ a, s (ix2 (sub a r) c) ≤ M := by
  have e : maxStep (F := Ideal) rm s (ix2 r c) = max (rm (ix2 r c)) (Finset.univ.fold max ⊥ fun a => s (ix2 (sub a r) c)) := by
    pointwise [maxStep, bits_neg_inf]
  rw [e, max_le_iff, Finset.fold_max_le]
  simp

/-- A probability is a power of two of the scaled score less the shift. -/
theorem prob_apply (k : EReal) (sh : FVec Ideal S1x256 .f32) (s : FVec Ideal S512x256 .f32) (r : Fin 512) (c : Fin 256) :
    prob (F := Ideal) k sh s (ix2 r c) = Ideal.exp2 (s (ix2 r c) * k - sh (ix2 0 c)) := by
  pointwise [prob]
  rfl

/-- One step of the running sum adds the chunk's rows that fold onto it. -/
theorem sumStep_apply (rs : FVec Ideal S32x256 .f32) (p : FVec Ideal S512x256 .f32) (r : Fin 32) (c : Fin 256) :
    sumStep (F := Ideal) rs p (ix2 r c) = rs (ix2 r c) + ∑ a, p (ix2 (sub a r) c) := by
  pointwise [sumStep]

/-- One step of the weighted values adds the chunk's values times the clipped probabilities. -/
theorem accStep_apply (acc : FVec Ideal S256x256 .f32) (vc : FVec Ideal S1x1x256x512 .fp8e4m3) (p : FVec Ideal S512x256 .f32)
    (r : Fin 256) (c : Fin 256) :
    accStep (F := Ideal) acc vc p (ix2 r c) = acc (ix2 r c) + ∑ x : Fin 512, vc (ix4 0 0 r x) * clip (p (ix2 x c)) := by
  pointwise [accStep, codes, bits_448, bits_neg_448]
  rfl

/-- The shift, from the running maximum. -/
theorem shiftOf_apply (k : EReal) (rm : FVec Ideal S32x256 .f32) (c : Fin 256) :
    shiftOf (F := Ideal) k rm (ix2 0 c) = Finset.univ.fold max ⊥ (fun x : Fin 32 => rm (ix2 x c)) * k - ((8 : ℝ) : EReal) := by
  pointwise [shiftOf, bits_neg_inf, bits_eight]

/-- The stored tile, from the running sum and the weighted values. -/
theorem outOf_apply (w : EReal) (rs : FVec Ideal S32x256 .f32) (acc : FVec Ideal S256x256 .f32) (r c : Fin 256) :
    outOf (F := Ideal) w rs acc (ix3 0 r c)
      = acc (ix2 c r) * Ideal.div (w * ((1 / 256 : ℝ) : EReal)) ((∑ x : Fin 32, rs (ix2 x r)) * ((1 / 256 : ℝ) : EReal)) := by
  pointwise [outOf, bits_256th]

/-- The running maximum bounds exactly the scores it has seen. -/
theorem runMax_le (v0 : FVec Ideal S32x256 .f32) (s : ℕ → FVec Ideal S512x256 .f32) (r : Fin 32) (c : Fin 256) (M : EReal) :
    ∀ n, runMax (F := Ideal) v0 s n (ix2 r c) ≤ M ↔ v0 (ix2 r c) ≤ M ∧ ∀ j < n, ∀ a, s j (ix2 (sub a r) c) ≤ M
  | 0 => by simp [runMax]
  | n + 1 => by
    rw [runMax, maxStep_le, runMax_le v0 s r c M n, and_assoc]
    refine and_congr_right fun _ => ⟨fun h j hj => ?_, fun h => ⟨fun j hj => h j (by omega), h n (by omega)⟩⟩
    rcases Nat.lt_succ_iff_lt_or_eq.mp hj with hj | rfl
    · exact h.1 j hj
    · exact h.2

/-- The running sum is the sum of the probabilities it has seen. -/
theorem runSum_apply (v1 : FVec Ideal S32x256 .f32) (p : ℕ → FVec Ideal S512x256 .f32) (r : Fin 32) (c : Fin 256) :
    ∀ n, runSum (F := Ideal) v1 p n (ix2 r c) = v1 (ix2 r c) + ∑ j ∈ Finset.range n, ∑ a, p j (ix2 (sub a r) c)
  | 0 => by simp [runSum]
  | n + 1 => by rw [runSum, sumStep_apply, runSum_apply v1 p r c n, Finset.sum_range_succ, add_assoc]

/-- The running product is the sum of the products it has seen. -/
theorem runAcc_apply (v2 : FVec Ideal S256x256 .f32) (v : ℕ → FVec Ideal S1x1x256x512 .fp8e4m3) (p : ℕ → FVec Ideal S512x256 .f32)
    (r : Fin 256) (c : Fin 256) :
    ∀ n, runAcc (F := Ideal) v2 v p n (ix2 r c)
      = v2 (ix2 r c) + ∑ j ∈ Finset.range n, ∑ x : Fin 512, v j (ix4 0 0 r x) * clip (p j (ix2 x c))
  | 0 => by simp [runAcc]
  | n + 1 => by rw [runAcc, accStep_apply, runAcc_apply v2 v p r c n, Finset.sum_range_succ, add_assoc]

/-- Key `x` of chunk `j`. -/
abbrev keyOf (j : Fin 16) (x : Fin 512) : Fin 8192 := ⟨j.val * 512 + x.val, by omega⟩

/-- A sum over the keys, chunk by chunk. -/
theorem sum_keys (f : Fin 8192 → EReal) : ∑ j : Fin 16, ∑ x : Fin 512, f (keyOf j x) = ∑ k, f k :=
  (Fin.sum_univ_tiles 16 512 rfl f).symm

/-- A sum over the keys, the way the row sum is gathered: 32 partial sums over chunks and slices. -/
theorem sum_keys_sub (f : Fin 8192 → EReal) : ∑ r : Fin 32, ∑ j : Fin 16, ∑ a : Fin 16, f (keyOf j (sub a r)) = ∑ k, f k := by
  rw [Finset.sum_comm, ← sum_keys]
  refine Finset.sum_congr rfl fun j _ => ?_
  rw [Finset.sum_comm]
  exact (Fin.sum_univ_tiles 16 32 rfl fun x => f (keyOf j x)).symm

/-- Every key is in a chunk, in a slice. -/
theorem exists_key (k : Fin 8192) : ∃ (j : Fin 16) (a : Fin 16) (r : Fin 32), k = keyOf j (sub a r) :=
  ⟨⟨k.val / 512, by omega⟩, ⟨k.val % 512 / 32, by omega⟩, ⟨k.val % 32, by omega⟩, by apply Fin.ext; show k.val = _; simp; omega⟩

section Item

variable (i : grid0.Coords) (x0 : Vec Ideal S16 .f32) (x1 x2 : Vec Ideal S2 .f32) (x3 : Vec Ideal S1x1024x2048 .fp8e4m3)
  (x4 : Vec Ideal S1x8192x256 .fp8e4m3) (x5 : Vec Ideal S1x1x256x8192 .fp8e4m3)

/-- The scores of query row `c` of item `n`. -/
def rowScore (n : ℕ) (c : Fin 256) (k : Fin 8192) : EReal :=
  ∑ d : Fin 256, x4 (ix3 (0 : Fin 1) k d) * (xAt (F := Ideal) x3 n (ix3 (0 : Fin 1) c d) * sgn (qsAt (F := Ideal) i x0 n) (gsAt (F := Ideal) i x1))

/-- Chunk `j`'s keys are the block's. -/
theorem kAt_apply (j : Fin 16) (x : Fin 512) (d : Fin 256) : kAt (F := Ideal) x4 j.val (ix3 0 x d) = x4 (ix3 (0 : Fin 1) (keyOf j x) d) := by
  unfold kAt rd
  congr 1
  funext a; apply Fin.ext; fin_cases a
  · rfl
  · show 512 * (j.val % 16) + 1 * x.val = j.val * 512 + x.val; omega
  · show 0 + 1 * d.val = d.val; omega

/-- Chunk `j`'s values are the block's. -/
theorem vAt_apply (j : Fin 16) (x : Fin 512) (d : Fin 256) : vAt (F := Ideal) x5 j.val (ix4 0 0 d x) = x5 (ix4 (0 : Fin 1) (0 : Fin 1) d (keyOf j x)) := by
  unfold vAt rd
  congr 1
  funext a; apply Fin.ext; fin_cases a
  · rfl
  · rfl
  · show 0 + 1 * d.val = d.val; omega
  · show 512 * (j.val % 16) + 1 * x.val = j.val * 512 + x.val; omega

/-- A chunk's score is the row's score at the chunk's key. -/
theorem SC_apply (n : ℕ) (j : Fin 16) (x : Fin 512) (c : Fin 256) :
    SC (F := Ideal) i x0 x1 x3 x4 n j.val (ix2 x c) = rowScore i x0 x1 x3 x4 n c (keyOf j x) := by
  unfold SC rowScore
  rw [score_apply]
  exact Finset.sum_congr rfl fun d _ => by rw [kAt_apply, qBlk_apply]

/-- The largest score, gathered from the 32 partial maxima. -/
theorem max_apply (n : ℕ) (c : Fin 256) :
    (Finset.univ.fold max ⊥ fun r : Fin 32 => runMax (F := Ideal) k0_pay193 (SC (F := Ideal) i x0 x1 x3 x4 n) 16 (ix2 r c))
      = Finset.univ.fold max ⊥ (rowScore i x0 x1 x3 x4 n c) := by
  refine eq_of_forall_ge_iff fun M => ?_
  have h0 : ∀ r : Fin 32, (k0_pay193 (F := Ideal)) (ix2 r c) = ⊥ := fun r => bits_neg_inf
  simp only [Finset.fold_max_le, runMax_le, h0, bot_le, true_and, Finset.mem_univ, forall_true_left]
  constructor
  · intro h k
    obtain ⟨j, a, r, rfl⟩ := exists_key k
    rw [← SC_apply]
    exact h r j.val j.isLt a
  · intro h r j hj a
    rw [show j = (⟨j, hj⟩ : Fin 16).val from rfl, SC_apply]
    exact h _

/-- A chunk's probability is the row's probability at the chunk's key. -/
theorem PR_apply (n : ℕ) (j : Fin 16) (x : Fin 512) (c : Fin 256) :
    PR (F := Ideal) i x0 x1 x3 x4 k0_pay193 n j.val (ix2 x c)
      = kernelProb (qsAt (F := Ideal) i x0 n) (gsAt (F := Ideal) i x1) (rowScore i x0 x1 x3 x4 n c) (keyOf j x) := by
  unfold PR SH CS kernelProb
  rw [prob_apply, shiftOf_apply, max_apply, SC_apply, cscOf_eq]

/-- The tile of item `n`: query row `r`, column `d`. -/
theorem OUT_apply (n : ℕ) (r d : Fin 256) :
    OUT (F := Ideal) i x0 x1 x2 x3 x4 x5 k0_pay193 k0_pay194 k0_pay195 n (ix3 0 r d)
      = kernelRow (qsAt (F := Ideal) i x0 n) (gsAt (F := Ideal) i x1) (gsAt (F := Ideal) i x2) (rowScore i x0 x1 x3 x4 n r)
          (fun k => x5 (ix4 (0 : Fin 1) (0 : Fin 1) d k)) := by
  have h1 : ∀ x : Fin 32, (k0_pay194 (F := Ideal)) (ix2 x r) = 0 := fun x => Ideal.ofBits_zero .f32
  have h2 : (k0_pay195 (F := Ideal)) (ix2 d r) = 0 := Ideal.ofBits_zero .f32
  unfold OUT kernelRow
  rw [outOf_apply, runAcc_apply, h2, zero_add]
  simp only [runSum_apply, h1, zero_add, Finset.sum_range, PR_apply, vAt_apply]
  rw [sum_keys fun k => x5 (ix4 (0 : Fin 1) (0 : Fin 1) d k) * clip (kernelProb (qsAt (F := Ideal) i x0 n) (gsAt (F := Ideal) i x1) (rowScore i x0 x1 x3 x4 n r) k),
    sum_keys_sub]

end Item

end Cert.KernelIdeal.Attn

end
-- ==== Proof.KernelArray.lean ====
/- The kernel's result array, element by element: the grid point whose block holds the element, the blocks of that point read
   off the arguments, and the element as `kernelRow`. -/
module

public import proofs.«01_k».proof.Proof.KernelRun
public import proofs.«01_k».proof.Proof.Tile
public import Idealize.ShloMosaic.Lib.Pipeline.Covers
public import Idealize.ShloMosaic.Lib.StableHlo.ReadAt

@[expose] public section

noncomputable section

namespace Cert.KernelIdeal.Attn

open Idealize.ShloMosaic Cert.KernelIdeal Cert.KernelIdeal.Gen Cert.Attention
open Idealize.ShloMosaic.TcCoe
open Idealize.ShloMosaic.Pipeline (Dat)

variable (m : (ℓ : Loc nD τ sig) → Buf (Elt Ideal) ℓ) (c : Dev nD)

/-- The values with the keys last, read off the argument. -/
theorem V_v1_apply (b : Fin 8) (h : Fin 2) (d : Fin 256) (s : Fin 8192) :
    V m c main_v1 (ix4 b h d s) = m ((c : Thread nD τ).loc main_arg4) (ix3 b s (colK h d)) := by
  unfold V
  after_reads_at

/-- Where the block of window 0 lies at each grid point. -/
theorem index0 : ∀ t : Fin grid0.N, win0_0.index t = ![0] := by decide +kernel
/-- Where the block of window 1 lies at each grid point. -/
theorem index1 : ∀ t : Fin grid0.N, win0_1.index t = ![0] := by decide +kernel
/-- Where the block of window 2 lies at each grid point. -/
theorem index2 : ∀ t : Fin grid0.N, win0_2.index t = ![0] := by decide +kernel
/-- Where the block of window 3 lies at each grid point. -/
theorem index3 : ∀ t : Fin grid0.N, win0_3.index t = ![(grid0.coords t 0).val, (grid0.coords t 2).val, (grid0.coords t 1).val] := by
  decide +kernel
/-- Where the block of window 4 lies at each grid point. -/
theorem index4 : ∀ t : Fin grid0.N, win0_4.index t = ![(grid0.coords t 0).val, 0, (grid0.coords t 1).val] := by decide +kernel
/-- Where the block of window 5 lies at each grid point. -/
theorem index5 : ∀ t : Fin grid0.N, win0_5.index t = ![(grid0.coords t 0).val, (grid0.coords t 1).val, 0, 0] := by decide +kernel
/-- Where the block of window 6 lies at each grid point. -/
theorem index6 : ∀ t : Fin grid0.N, win0_6.index t = ![(grid0.coords t 0).val, (grid0.coords t 2).val, (grid0.coords t 1).val] := by
  decide +kernel
/-- Every grid point writes its output block back. -/
theorem flush6 : ∀ t : Fin grid0.N, win0_6.flush t = true := by decide +kernel

/-- A row of item `n`'s query tile is a row of the block, in head `n % 8`'s columns. -/
theorem xAt_eq (x : Vec Ideal S1x1024x2048 .fp8e4m3) (n : ℕ) (a : Fin 1024) (g : Fin 8) (r e : Fin 256) (hn : n % 8 = g.val)
    (ha : 256 * (n % 32 / 8) + r.val = a.val) :
    xAt (F := Ideal) x n (ix3 0 r e) = x (ix3 0 a (⟨g.val * 256 + e.val, by omega⟩ : Fin 2048)) := by
  unfold xAt rd
  refine congrArg _ (funext fun y => Fin.ext ?_)
  match y with
  | ⟨0, _⟩ => rfl
  | ⟨1, _⟩ => show 256 * (n % 32 / 8) + 1 * r.val = a.val; omega
  | ⟨2, _⟩ => show 256 * (n % 8) + 1 * e.val = g.val * 256 + e.val; omega

variable (t : Fin cfg0.N)

/-- The scales of the heads are staged whole. -/
theorem iblk0 (a : Fin 16) : iblk m c 0 t (ix1 a) = m ((c : Thread nD τ).loc main_arg1) (ix1 a) := by
  unfold iblk
  rw [View.read_apply]
  show V m c main_arg1 _ = _
  rw [V_main_arg1]
  refine congrArg _ (funext fun x => Fin.ext ?_)
  match x with
  | ⟨0, _⟩ => show win0_0.index t 0 * 16 + 1 * a.val = a.val; rw [index0 t]; show 0 * 16 + 1 * a.val = a.val; omega

/-- The scales of the groups' keys are staged whole. -/
theorem iblk1 (a : Fin 2) : iblk m c 1 t (ix1 a) = m ((c : Thread nD τ).loc main_arg3) (ix1 a) := by
  unfold iblk
  rw [View.read_apply]
  show V m c main_arg3 _ = _
  rw [V_main_arg3]
  refine congrArg _ (funext fun x => Fin.ext ?_)
  match x with
  | ⟨0, _⟩ => show win0_1.index t 0 * 2 + 1 * a.val = a.val; rw [index1 t]; show 0 * 2 + 1 * a.val = a.val; omega

/-- The scales of the groups' values are staged whole. -/
theorem iblk2 (a : Fin 2) : iblk m c 2 t (ix1 a) = m ((c : Thread nD τ).loc main_arg5) (ix1 a) := by
  unfold iblk
  rw [View.read_apply]
  show V m c main_arg5 _ = _
  rw [V_main_arg5]
  refine congrArg _ (funext fun x => Fin.ext ?_)
  match x with
  | ⟨0, _⟩ => show win0_2.index t 0 * 2 + 1 * a.val = a.val; rw [index2 t]; show 0 * 2 + 1 * a.val = a.val; omega

variable (b : Fin 8) (h : Fin 2) (q : Fin 8) (hb : (grid0.coords t 0).val = b.val) (hh : (grid0.coords t 1).val = h.val)
  (hq : (grid0.coords t 2).val = q.val)

include hb hh hq in
/-- The query block of a point: its batch, its 1024 rows and its group's 2048 columns. -/
theorem iblk3 (r : Fin 1024) (e : Fin 2048) :
    iblk m c 3 t (ix3 0 r e) = m ((c : Thread nD τ).loc main_arg0)
      (ix3 b (⟨q.val * 1024 + r.val, by omega⟩ : Fin 8192) (⟨h.val * 2048 + e.val, by omega⟩ : Fin 4096)) := by
  unfold iblk
  rw [View.read_apply]
  show V m c main_arg0 _ = _
  rw [V_main_arg0]
  refine congrArg _ (funext fun x => Fin.ext ?_)
  match x with
  | ⟨0, _⟩ => show win0_3.index t 0 * 1 + 1 * 0 = b.val; rw [index3 t]; show (grid0.coords t 0).val * 1 + 1 * 0 = b.val; omega
  | ⟨1, _⟩ =>
    show win0_3.index t 1 * 1024 + 1 * r.val = q.val * 1024 + r.val
    rw [index3 t]; show (grid0.coords t 2).val * 1024 + 1 * r.val = q.val * 1024 + r.val; omega
  | ⟨2, _⟩ =>
    show win0_3.index t 2 * 2048 + 1 * e.val = h.val * 2048 + e.val
    rw [index3 t]; show (grid0.coords t 1).val * 2048 + 1 * e.val = h.val * 2048 + e.val; omega

include hb hh in
/-- The keys of a point: its batch's, in its group's 256 columns. -/
theorem iblk4 (s : Fin 8192) (e : Fin 256) :
    iblk m c 4 t (ix3 0 s e) = m ((c : Thread nD τ).loc main_arg2) (ix3 b s (colK h e)) := by
  unfold iblk
  rw [View.read_apply]
  show V m c main_arg2 _ = _
  rw [V_main_arg2]
  refine congrArg _ (funext fun x => Fin.ext ?_)
  match x with
  | ⟨0, _⟩ => show win0_4.index t 0 * 1 + 1 * 0 = b.val; rw [index4 t]; show (grid0.coords t 0).val * 1 + 1 * 0 = b.val; omega
  | ⟨1, _⟩ => show win0_4.index t 1 * 8192 + 1 * s.val = s.val; rw [index4 t]; show 0 * 8192 + 1 * s.val = s.val; omega
  | ⟨2, _⟩ =>
    show win0_4.index t 2 * 256 + 1 * e.val = h.val * 256 + e.val
    rw [index4 t]; show (grid0.coords t 1).val * 256 + 1 * e.val = h.val * 256 + e.val; omega

include hb hh in
/-- The values of a point: its batch's, in its group's 256 columns. -/
theorem iblk5 (e : Fin 256) (s : Fin 8192) :
    iblk m c 5 t (ix4 0 0 e s) = m ((c : Thread nD τ).loc main_arg4) (ix3 b s (colK h e)) := by
  rw [← V_v1_apply m c b h e s]
  unfold iblk
  rw [View.read_apply]
  show V m c main_v1 _ = _
  refine congrArg _ (funext fun x => Fin.ext ?_)
  match x with
  | ⟨0, _⟩ => show win0_5.index t 0 * 1 + 1 * 0 = b.val; rw [index5 t]; show (grid0.coords t 0).val * 1 + 1 * 0 = b.val; omega
  | ⟨1, _⟩ => show win0_5.index t 1 * 1 + 1 * 0 = h.val; rw [index5 t]; show (grid0.coords t 1).val * 1 + 1 * 0 = h.val; omega
  | ⟨2, _⟩ => show win0_5.index t 2 * 256 + 1 * e.val = e.val; rw [index5 t]; show 0 * 256 + 1 * e.val = e.val; omega
  | ⟨3, _⟩ => show win0_5.index t 3 * 8192 + 1 * s.val = s.val; rw [index5 t]; show 0 * 8192 + 1 * s.val = s.val; omega

include hh in
/-- The key or value scale a point reads is its group's. -/
theorem gsAt_eq (x : Vec Ideal S2 .f32) : gsAt (F := Ideal) (grid0.coords t) x = x (ix1 h) := by
  unfold gsAt rd
  refine congrArg _ (funext fun a => Fin.ext ?_)
  match a with
  | ⟨0, _⟩ => show (grid0.coords t 1).val + 1 * 0 = h.val; omega

include hh in
/-- The head scale that item `n` reads is head `n % 8` of the group. -/
theorem qsAt_eq (x : Vec Ideal S16 .f32) (n : ℕ) (g : Fin 8) (hn : n % 8 = g.val) :
    qsAt (F := Ideal) (grid0.coords t) x n = x (ix1 (headOf h g)) := by
  unfold qsAt rd
  refine congrArg _ (funext fun a => Fin.ext ?_)
  match a with
  | ⟨0, _⟩ => show 8 * (grid0.coords t 1).val + n % 8 + 1 * 0 = h.val * 8 + g.val; omega

/-- The result array's element in head `g` of group `h`: `kernelRow` of the head's and the group's scales, the scores of the
    query row (its sign folded in) against the keys, and the values of the element. -/
theorem result_apply (b : Fin 8) (h : Fin 2) (g : Fin 8) (r : Fin 8192) (d : Fin 256) :
    (dats (F := Ideal) m 0 c).arrAt 6 cfg0.N (ix3 b r (colOf h g d))
      = kernelRow (m ((c : Thread nD τ).loc main_arg1) (ix1 (headOf h g))) (m ((c : Thread nD τ).loc main_arg3) (ix1 h))
          (m ((c : Thread nD τ).loc main_arg5) (ix1 h))
          (fun k => ∑ e : Fin 256, HMul.hMul (α := EReal) (β := EReal) (m ((c : Thread nD τ).loc main_arg2) (ix3 b k (colK h e)))
            (HMul.hMul (α := EReal) (β := EReal) (m ((c : Thread nD τ).loc main_arg0) (ix3 b r (colOf h g e)))
              (sgn (m ((c : Thread nD τ).loc main_arg1) (ix1 (headOf h g))) (m ((c : Thread nD τ).loc main_arg3) (ix1 h)))))
          (fun k => m ((c : Thread nD τ).loc main_arg4) (ix3 b k (colK h d))) := by
  obtain ⟨t, ht⟩ := Pipeline.Grid.coords_surjective grid0
    (fun | 0 => b | 1 => h | 2 => (⟨r.val / 1024, by omega⟩ : Fin 8))
  have hb : (grid0.coords t 0).val = b.val := by rw [ht]
  have hh : (grid0.coords t 1).val = h.val := by rw [ht]
  have hq : (grid0.coords t 2).val = (⟨r.val / 1024, by omega⟩ : Fin 8).val := by rw [ht]
  have hq' : (grid0.coords t 2).val = r.val / 1024 := hq
  have key := Dat.arrAt_emb_eq_flushed (dats (F := Ideal) m 0 c) 6 Value.disjoint6 t (flush6 t)
    (ix3 (0 : Fin 1) (⟨r.val % 1024, by omega⟩ : Fin 1024) (⟨g.val * 256 + d.val, by omega⟩ : Fin 2048))
  have he : ((cfg0.win 6).blk t).view.emb
      (ix3 (0 : Fin 1) (⟨r.val % 1024, by omega⟩ : Fin 1024) (⟨g.val * 256 + d.val, by omega⟩ : Fin 2048)) = ix3 b r (colOf h g d) := by
    refine funext fun x => Fin.ext ?_
    match x with
    | ⟨0, _⟩ => show win0_6.index t 0 * 1 + 1 * 0 = b.val; rw [index6 t]; show (grid0.coords t 0).val * 1 + 1 * 0 = b.val; omega
    | ⟨1, _⟩ =>
      show win0_6.index t 1 * 1024 + 1 * (r.val % 1024) = r.val
      rw [index6 t]; show (grid0.coords t 2).val * 1024 + 1 * (r.val % 1024) = r.val; omega
    | ⟨2, _⟩ =>
      show win0_6.index t 2 * 2048 + 1 * (g.val * 256 + d.val) = h.val * 2048 + g.val * 256 + d.val
      rw [index6 t]; show (grid0.coords t 1).val * 2048 + 1 * (g.val * 256 + d.val) = h.val * 2048 + g.val * 256 + d.val; omega
  rw [he, Value.flushed6] at key
  refine key.trans ?_
  have hn : 8 * (r.val % 1024 / 256) + (g.val * 256 + d.val) / 256 = 8 * (r.val % 1024 / 256) + g.val := by omega
  have hd : (⟨(g.val * 256 + d.val) % 256, Nat.mod_lt _ (by decide)⟩ : Fin 256) = d := Fin.ext (by show (g.val * 256 + d.val) % 256 = d.val; omega)
  show OUT (F := Ideal) (grid0.coords t) (iblk m c 0 t) (iblk m c 1 t) (iblk m c 2 t) (iblk m c 3 t) (iblk m c 4 t) (iblk m c 5 t)
    k0_pay193 k0_pay194 k0_pay195 (8 * (r.val % 1024 / 256) + (g.val * 256 + d.val) / 256)
    (ix3 (0 : Fin 1) (⟨r.val % 1024 % 256, Nat.mod_lt _ (by decide)⟩ : Fin 256) (⟨(g.val * 256 + d.val) % 256, Nat.mod_lt _ (by decide)⟩ : Fin 256)) = _
  rw [hn, hd, OUT_apply, qsAt_eq t h hh _ _ g (by omega), gsAt_eq t h hh, gsAt_eq t h hh, iblk0, iblk1, iblk2]
  have hs : rowScore (grid0.coords t) (iblk m c 0 t) (iblk m c 1 t) (iblk m c 3 t) (iblk m c 4 t) (8 * (r.val % 1024 / 256) + g.val)
      (⟨r.val % 1024 % 256, Nat.mod_lt _ (by decide)⟩ : Fin 256)
      = (fun k => ∑ e : Fin 256, HMul.hMul (α := EReal) (β := EReal) (m ((c : Thread nD τ).loc main_arg2) (ix3 b k (colK h e)))
            (HMul.hMul (α := EReal) (β := EReal) (m ((c : Thread nD τ).loc main_arg0) (ix3 b r (colOf h g e)))
              (sgn (m ((c : Thread nD τ).loc main_arg1) (ix1 (headOf h g))) (m ((c : Thread nD τ).loc main_arg3) (ix1 h))))) := by
    funext k
    unfold rowScore
    refine Finset.sum_congr rfl fun e _ => ?_
    rw [qsAt_eq t h hh _ _ g (by omega), gsAt_eq t h hh, iblk0, iblk1, iblk4 m c t b h hb hh,
      xAt_eq _ _ (⟨r.val % 1024, by omega⟩ : Fin 1024) g _ e (by omega) (by show 256 * ((8 * (r.val % 1024 / 256) + g.val) % 32 / 8) + r.val % 1024 % 256 = r.val % 1024; omega),
      iblk3 m c t b h _ hb hh hq]
    have e1 : (⟨r.val / 1024 * 1024 + r.val % 1024, by omega⟩ : Fin 8192) = r := Fin.ext (by show r.val / 1024 * 1024 + r.val % 1024 = r.val; omega)
    have e2 : (⟨h.val * 2048 + (g.val * 256 + e.val), by omega⟩ : Fin 4096) = colOf h g e := Fin.ext (by show h.val * 2048 + (g.val * 256 + e.val) = h.val * 2048 + g.val * 256 + e.val; omega)
    exact congrArg (fun z : EReal => HMul.hMul (α := EReal) (β := EReal) (m ((c : Thread nD τ).loc main_arg2) (ix3 b k (colK h e)))
        (HMul.hMul z (sgn (m ((c : Thread nD τ).loc main_arg1) (ix1 (headOf h g))) (m ((c : Thread nD τ).loc main_arg3) (ix1 h)))))
      (congrArg₂ (fun a a' => m ((c : Thread nD τ).loc main_arg0) (ix3 b a a')) e1 e2)
  rw [hs]
  simp only [iblk5 m c t b h hb hh]

end Cert.KernelIdeal.Attn

end
-- ==== Proof.RefRow.lean ====
/- The reference's result, element by element: each of its steps read at an index, the host's layout and scales read off the
   arguments, and the result array as `refRow`. -/
module

public import proofs.«01_k».proof.Proof.Gen.ReferenceIdeal.Value
public import proofs.«01_k».proof.Proof.Consts
public import proofs.«01_k».proof.Proof.Row
public import Idealize.ShloMosaic.Lib.Pointwise
public import Idealize.ShloMosaic.Lib.StableHlo.ReadAt

@[expose] public section

noncomputable section

namespace Cert.ReferenceIdeal.Attn

open Idealize.ShloMosaic Cert.ReferenceIdeal Cert.ReferenceIdeal.Gen Cert.Attention

section Body
variable (q : Vec Ideal S8x2x8x8192x256 .fp8e4m3) (k v : Vec Ideal S8x2x8192x256 .fp8e4m3) (ss : Vec Ideal S2x8 .f32) (os : Vec Ideal S2 .f32)

/-- The reference's scaled score of one query row against key `s`. -/
def refScore (b : Fin 8) (h : Fin 2) (g : Fin 8) (r s : Fin 8192) : EReal :=
  (∑ d : Fin 256, q (ix5 b h g r d) * k (ix4 b h s d)) * ss (ix2 h g)

/-- The exponentials of the scaled scores. -/
theorem pay2_apply (b : Fin 8) (h : Fin 2) (g : Fin 8) (r s : Fin 8192) :
    k0_pay2 (F := Ideal) q k ss (ix5 b h g r s) = refProb (refScore q k ss b h g r) s := by
  pointwise [k0_pay2, bits_neg_inf]
  rfl

/-- The clipped codes times the values. -/
theorem pay3_apply (b : Fin 8) (h : Fin 2) (g : Fin 8) (r : Fin 8192) (d : Fin 256) :
    k0_pay3 (F := Ideal) q k v ss (ix5 b h g r d)
      = ∑ s, clip (refProb (refScore q k ss b h g r) s * ((256 : ℝ) : EReal)) * v (ix4 b h s d) := by
  pointwise [k0_pay3, bits_448, bits_neg_448, bits_256, pay2_apply]
  rfl

/-- The sum of the exponentials. -/
theorem pay4_apply (b : Fin 8) (h : Fin 2) (g : Fin 8) (r : Fin 8192) :
    k0_pay4 (F := Ideal) q k ss (ix5 b h g r 0) = ∑ s, refProb (refScore q k ss b h g r) s := by
  pointwise [k0_pay4, pay2_apply]

/-- The output scale is its group's. -/
theorem pay5_apply (b : Fin 8) (h : Fin 2) (g : Fin 8) (r : Fin 8192) : k0_pay5 (F := Ideal) os (ix5 b h g r 0) = os (ix1 h) := by
  pointwise [k0_pay5]

/-- The stored element: the weighted values times the quotient of the output scale and the sum. -/
theorem pay1_apply (o : FVec Ideal S8x2x8x8192x256 .f32) (l w : FVec Ideal S8x2x8x8192x1 .f32) (b : Fin 8) (h : Fin 2) (g : Fin 8)
    (r : Fin 8192) (d : Fin 256) :
    k0_pay1 (F := Ideal) o l w (ix3 b r (colOf h g d)) = o (ix5 b h g r d) * Ideal.div (w (ix5 b h g r 0)) (l (ix5 b h g r 0)) := by
  show k0_pay1 (F := Ideal) o l w (ix3 b r ⟨h.val * 2048 + g.val * 256 + d.val, by omega⟩) = _
  pointwise [k0_pay1]

end Body

open Idealize.ShloMosaic.TcCoe

section Host

variable (m : (ℓ : Loc nD τ sig) → Buf (Elt Ideal) ℓ) (c : Dev nD)

/-- The queries by head, read off the argument. -/
theorem V_v1_apply (b : Fin 8) (h : Fin 2) (g : Fin 8) (r : Fin 8192) (d : Fin 256) :
    V m c main_v1 (ix5 b h g r d) = m ((c : Thread nD τ).loc main_arg0) (ix3 b r (colOf h g d)) := by
  unfold V
  after_reads_at

/-- The keys by group, read off the argument. -/
theorem V_v3_apply (b : Fin 8) (h : Fin 2) (s : Fin 8192) (d : Fin 256) :
    V m c main_v3 (ix4 b h s d) = m ((c : Thread nD τ).loc main_arg2) (ix3 b s (colK h d)) := by
  unfold V
  after_reads_at

/-- The values by group, read off the argument. -/
theorem V_v5_apply (b : Fin 8) (h : Fin 2) (s : Fin 8192) (d : Fin 256) :
    V m c main_v5 (ix4 b h s d) = m ((c : Thread nD τ).loc main_arg4) (ix3 b s (colK h d)) := by
  unfold V
  after_reads_at

/-- The score scales, read off the arguments. -/
theorem V_v11_apply (h : Fin 2) (g : Fin 8) :
    V m c main_v11 (ix2 h g) = scale (m ((c : Thread nD τ).loc main_arg1) (ix1 (headOf h g))) (m ((c : Thread nD τ).loc main_arg3) (ix1 h)) := by
  unfold V
  after_reads_at
  rw [bits_sixteenth]
  rfl

/-- The output scales, read off the argument. -/
theorem V_v13_apply (h : Fin 2) :
    V m c main_v13 (ix1 h) = HMul.hMul (α := EReal) (m ((c : Thread nD τ).loc main_arg5) (ix1 h)) ((1 / 256 : ℝ) : EReal) := by
  unfold V
  after_reads_at
  rw [bits_256th]

/-- The one grid point. -/
def t₀ : Fin cfg0.N := ⟨0, by decide⟩

/-- The result array after the run is the body's payload of the arrays the region finds. -/
theorem final_value : (dats (F := Ideal) m 0 c).arrAt 5 cfg0.N
    = k0_pay1 (k0_pay3 (V m c main_v1) (V m c main_v3) (V m c main_v5) (V m c main_v11))
        (k0_pay4 (V m c main_v1) (V m c main_v3) (V m c main_v11)) (k0_pay5 (V m c main_v13)) := by
  have ho := Value.blocks5 (F := Ideal) m c t₀ (by decide)
  have z1 : (![0] : Fin 1 → ℕ) = fun _ => 0 := funext fun a => by fin_cases a <;> rfl
  have z2 : (![0, 0] : Fin 2 → ℕ) = fun _ => 0 := funext fun a => by fin_cases a <;> rfl
  have z3 : (![0, 0, 0] : Fin 3 → ℕ) = fun _ => 0 := funext fun a => by fin_cases a <;> rfl
  have z4 : (![0, 0, 0, 0] : Fin 4 → ℕ) = fun _ => 0 := funext fun a => by fin_cases a <;> rfl
  have z5 : (![0, 0, 0, 0, 0] : Fin 5 → ℕ) = fun _ => 0 := funext fun a => by fin_cases a <;> rfl
  have e5 := fun f => Memref.read_access_unit_zero (Elt Ideal) main_v14 (off := fun a => win0_5.index t₀ a * main_v14.ty.shape.size a)
    (funext fun a => by fin_cases a <;> decide) (fun a => by fin_cases a <;> decide) f
  have e0 := fun f => Memref.read_access_unit_zero (Elt Ideal) main_v1 (off := fun a => win0_0.index t₀ a * main_v1.ty.shape.size a)
    (funext fun a => by fin_cases a <;> decide) (fun a => by fin_cases a <;> decide) f
  have e1 := fun f => Memref.read_access_unit_zero (Elt Ideal) main_v3 (off := fun a => win0_1.index t₀ a * main_v3.ty.shape.size a)
    (funext fun a => by fin_cases a <;> decide) (fun a => by fin_cases a <;> decide) f
  have e2 := fun f => Memref.read_access_unit_zero (Elt Ideal) main_v5 (off := fun a => win0_2.index t₀ a * main_v5.ty.shape.size a)
    (funext fun a => by fin_cases a <;> decide) (fun a => by fin_cases a <;> decide) f
  have e3 := fun f => Memref.read_access_unit_zero (Elt Ideal) main_v11 (off := fun a => win0_3.index t₀ a * main_v11.ty.shape.size a)
    (funext fun a => by fin_cases a <;> decide) (fun a => by fin_cases a <;> decide) f
  have e4 := fun f => Memref.read_access_unit_zero (Elt Ideal) main_v13 (off := fun a => win0_4.index t₀ a * main_v13.ty.shape.size a)
    (funext fun a => by fin_cases a <;> decide) (fun a => by fin_cases a <;> decide) f
  rw [e5, Value.flushed5] at ho
  rw [ho]
  unfold out0_5 iblk
  rw [View.canon_unit_zero z3, View.ld_unit_zero z5, View.ld_unit_zero z4, View.ld_unit_zero z4, View.ld_unit_zero z2, View.ld_unit_zero z1,
    e0, e1, e2, e3, e4]
  rfl

/-- The result array's element in head `g` of group `h`: `refRow` of the group's value scale, the scaled scores of the query
    row against the keys, and the values of the element. -/
theorem result_apply (b : Fin 8) (h : Fin 2) (g : Fin 8) (r : Fin 8192) (d : Fin 256) :
    (dats (F := Ideal) m 0 c).arrAt 5 cfg0.N (ix3 b r (colOf h g d))
      = refRow (m ((c : Thread nD τ).loc main_arg5) (ix1 h))
          (fun k => (∑ e : Fin 256, HMul.hMul (α := EReal) (β := EReal) (m ((c : Thread nD τ).loc main_arg0) (ix3 b r (colOf h g e)))
              (m ((c : Thread nD τ).loc main_arg2) (ix3 b k (colK h e))))
            * scale (m ((c : Thread nD τ).loc main_arg1) (ix1 (headOf h g))) (m ((c : Thread nD τ).loc main_arg3) (ix1 h)))
          (fun k => m ((c : Thread nD τ).loc main_arg4) (ix3 b k (colK h d))) := by
  rw [final_value, pay1_apply, pay3_apply, pay4_apply, pay5_apply, V_v13_apply]
  have hs : refScore (V m c main_v1) (V m c main_v3) (V m c main_v11) b h g r
      = (fun k => (∑ e : Fin 256, HMul.hMul (α := EReal) (β := EReal) (m ((c : Thread nD τ).loc main_arg0) (ix3 b r (colOf h g e)))
              (m ((c : Thread nD τ).loc main_arg2) (ix3 b k (colK h e))))
            * scale (m ((c : Thread nD τ).loc main_arg1) (ix1 (headOf h g))) (m ((c : Thread nD τ).loc main_arg3) (ix1 h))) := by
    funext k
    exact congrArg₂ (HMul.hMul (α := EReal) (β := EReal))
      (Finset.sum_congr rfl fun e _ => congrArg₂ (HMul.hMul (α := EReal) (β := EReal)) (V_v1_apply m c b h g r e) (V_v3_apply m c b h k e))
      (V_v11_apply m c h g)
  rw [hs]
  have hv : (fun k => V m c main_v5 (ix4 b h k d)) = fun k => m ((c : Thread nD τ).loc main_arg4) (ix3 b k (colK h d)) :=
    funext fun k => V_v5_apply m c b h k d
  rw [← hv]
  rfl

end Host

end Cert.ReferenceIdeal.Attn

end
-- ==== Proof.Equation.lean ====
/- The equation: where no score scale is negative, the kernel's result array is the reference's. -/
module

public import proofs.«01_k».proof.Proof.KernelArray
public import proofs.«01_k».proof.Proof.RefRow

@[expose] public section

noncomputable section

namespace Cert.Attention

open Idealize.ShloMosaic

/-- Every column of the result is an element of a head of a group. -/
theorem exists_colOf (x : Fin 4096) : ∃ h g d, x = colOf h g d :=
  ⟨⟨x.val / 2048, by omega⟩, ⟨x.val % 2048 / 256, by omega⟩, ⟨x.val % 256, by omega⟩,
    Fin.ext (by show x.val = x.val / 2048 * 2048 + x.val % 2048 / 256 * 256 + x.val % 256; omega)⟩

/-- From arguments that agree, with no head's score scale negative, the two programs leave the same result. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (hσ : ∀ (h : Fin 2) (g : Fin 8), 0 ≤ scale (m ((c.tc : Thread KernelIdeal.nD KernelIdeal.τ).loc KernelIdeal.main_arg1) (ix1 (headOf h g)))
      (m ((c.tc : Thread KernelIdeal.nD KernelIdeal.τ).loc KernelIdeal.main_arg3) (ix1 h))) :
    (ReferenceIdeal.Gen.dats (F := Ideal) m' 0 c).arrAt 5 ReferenceIdeal.cfg0.N
      = (KernelIdeal.Gen.dats (F := Ideal) m 0 c).arrAt 6 KernelIdeal.cfg0.N := by
  funext y
  obtain ⟨b, r, x, rfl⟩ : ∃ (b : Fin 8) (r : Fin 8192) (x : Fin 4096), y = ix3 b r x := ⟨y 0, y 1, y 2, ValueIdx.eq_ix3 y⟩
  obtain ⟨h, g, d, rfl⟩ := exists_colOf x
  refine (ReferenceIdeal.Attn.result_apply m' c b h g r d).trans (Eq.trans ?_ (KernelIdeal.Attn.result_apply m c b h g r d).symm)
  rw [h0, h1, h2, h3, h4, h5]
  refine (kernelRow_eq_refRow _ _ _ _ _ _ (hσ h g) fun k => ?_).symm
  refine congrArg (HMul.hMul (α := EReal) (β := EReal) · _) (Finset.sum_congr rfl fun e _ => ?_)
  rw [show sgn (m ((c.tc : Thread KernelIdeal.nD KernelIdeal.τ).loc KernelIdeal.main_arg1) (ix1 (headOf h g)))
    (m ((c.tc : Thread KernelIdeal.nD KernelIdeal.τ).loc KernelIdeal.main_arg3) (ix1 h)) = 1 from if_neg (not_lt.mpr (hσ h g))]
  exact (mul_comm (G := EReal) _ _).trans (congrArg (HMul.hMul (α := EReal) (β := EReal) _) (mul_one (M := EReal) _).symm)

end Cert.Attention

end
-- ==== Proof.SignPre.lean ====
/- The precondition, decoded: the product of a head's query scale and its group's key scale is not negative. -/
module

public import proofs.«01_k».proof.Pre_scores_keep_sign
public import proofs.«01_k».proof.Proof.Row
public import Idealize.ShloMosaic.Lib.Pointwise
public import Idealize.ShloMosaic.Lib.ReduceAll
public import Idealize.ShloMosaic.PureOps.IdealRules

@[expose] public section

noncomputable section

namespace Cert.Pre_scores_keep_sign

open Idealize.ShloMosaic Cert.Attention

/-- The shape relations that the precondition's operations state. -/
theorem facts : Facts where
  shapeCasts_S16_S2x8 := by decide
  bcast_S2_S2x1_0 := by decide
  bcast_S2x1_S2x8_0_1 := by decide
  bcast_S_S2x8 := by decide
  reducesTo_S2x8_S_d0_1 := by decide
  h_S_ := by decide

/-- Where the precondition says true, no head's score scale is negative. -/
theorem scale_nonneg [Facts] (x0 : FVec Ideal S8x8192x4096 .fp8e4m3) (x1 : FVec Ideal S16 .f32) (x2 : FVec Ideal S8x8192x512 .fp8e4m3)
    (x3 : FVec Ideal S2 .f32) (x4 : FVec Ideal S8x8192x512 .fp8e4m3) (x5 : FVec Ideal S2 .f32)
    (hp : fn (F := Ideal) x0 x1 x2 x3 x4 x5 = fun _ => 1#1) (h : Fin 2) (g : Fin 8) :
    0 ≤ scale (x1 (ix1 (headOf h g))) (x3 (ix1 h)) := by
  have hsub : Subsingleton S_.Idx := ⟨fun a b => funext fun x => x.elim0⟩
  have hp0 := congrFun hp (fun x : Fin 0 => x.elim0)
  unfold fn at hp0
  have e := Host.reduce_andi_all _ _ _ _ _ hp0 (ix2 h g)
  have e' : BitVec.ofBool (decide ((0 : EReal) ≤ x1 (ix1 (headOf h g)) * x3 (ix1 h))) = 1#1 := by
    rw [← e]
    pointwise
  have hm : (0 : EReal) ≤ x1 (ix1 (headOf h g)) * x3 (ix1 h) := by
    by_contra hc
    rw [decide_eq_false hc] at e'
    exact absurd e' (by decide)
  exact mul_nonneg hm (by exact_mod_cast (by norm_num : (0 : ℝ) ≤ 1 / 16))

end Cert.Pre_scores_keep_sign

end
-- ==== Proof.lean ====
module

public import proofs.«01_k».proof.Defs
public import proofs.«01_k».proof.Proof.KernelFrame
public import proofs.«01_k».proof.Proof.KernelRun
public import proofs.«01_k».proof.Proof.Gen.ReferenceIdeal.Value
public import proofs.«01_k».proof.Proof.Equation
public import proofs.«01_k».proof.Proof.SignPre

@[expose] public section

noncomputable section

namespace Cert.Proof

open Idealize.ShloMosaic Idealize.SL.Sem

/-- The idealized kernel and the reference, from arguments that agree and satisfy the precondition, leave the same result
    and their arguments unchanged. -/
theorem algebraic : algebraic_KernelIdeal_ReferenceIdeal_pre_scores_keep_sign (hKernelIdeal := Cert.KernelIdeal.Gen.facts)
    (hReferenceIdeal := Cert.ReferenceIdeal.Gen.facts) (hPre_scores_keep_sign := Cert.Pre_scores_keep_sign.facts) := by
  intro m ρ m' ρ' hpre hagree
  refine ⟨_, Cert.KernelIdeal.Value.run_blocks m ρ, ?_⟩
  refine (θ_run _ _ _).mono (fun _ h c => ⟨(h c).1.trans ?_, (h c).2⟩) (Cert.ReferenceIdeal.Value.run_blocks m' ρ')
  obtain ⟨h0, h1, h2, h3, h4, h5⟩ := hagree c
  exact Cert.Attention.result_eq m m' c h0 h1 h2 h3 h4 h5
    (@Cert.Pre_scores_keep_sign.scale_nonneg Cert.Pre_scores_keep_sign.facts _ _ _ _ _ _ (hpre c))

/-- The certificate. -/
theorem claim : Cert.Claim :=
  ⟨Cert.Kernel.Gen.facts, Cert.KernelIdeal.Gen.facts, Cert.ReferenceIdeal.Gen.facts, Cert.Pre_scores_keep_sign.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    IdealRules.named_const.statement Cert.KernelIdeal.κ "log2_e" .f32 0x3FB8AA3B#32 (((Real.log 2)⁻¹ : ℝ) : EReal) rfl,
    algebraic⟩

end Cert.Proof

end
